-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x8732x4 : Shape := ⟨3, ![128, 8732, 4]⟩
abbrev S128x8732x21 : Shape := ⟨3, ![128, 8732, 21]⟩
abbrev S8732x4 : Shape := ⟨2, ![8732, 4]⟩
abbrev S128x21x8732 : Shape := ⟨3, ![128, 21, 8732]⟩
abbrev S_ : Shape := ⟨0, ![]⟩
abbrev S128x24x8832 : Shape := ⟨3, ![128, 24, 8832]⟩
abbrev S128x4x8732 : Shape := ⟨3, ![128, 4, 8732]⟩
abbrev S128x8x8832 : Shape := ⟨3, ![128, 8, 8832]⟩
abbrev S4x8732 : Shape := ⟨2, ![4, 8732]⟩
abbrev S8x8832 : Shape := ⟨2, ![8, 8832]⟩
abbrev S128x8x24x256 : Shape := ⟨4, ![128, 8, 24, 256]⟩
abbrev S128x5x21x200 : Shape := ⟨4, ![128, 5, 21, 200]⟩
abbrev S128x21x200x5 : Shape := ⟨4, ![128, 21, 200, 5]⟩
abbrev S1x24x8832 : Shape := ⟨3, ![1, 24, 8832]⟩
abbrev S1x8x8832 : Shape := ⟨3, ![1, 8, 8832]⟩
abbrev S1x8x24x256 : Shape := ⟨4, ![1, 8, 24, 256]⟩
abbrev S24x8832 : Shape := ⟨2, ![24, 8832]⟩
abbrev S24x256 : Shape := ⟨2, ![24, 256]⟩
abbrev S8832 : Shape := ⟨1, ![8832]⟩
abbrev S1x8832 : Shape := ⟨2, ![1, 8832]⟩
abbrev S24x1 : Shape := ⟨2, ![24, 1]⟩
abbrev S24 : Shape := ⟨1, ![24]⟩
abbrev S24x8 : Shape := ⟨2, ![24, 8]⟩
abbrev S1x1x24x256 : Shape := ⟨4, ![1, 1, 24, 256]⟩

abbrev nBuf : Space → Nat
  | .hbm => 18
  | .vmem => 14
  | .smem => 0
  | _ => 0

abbrev bufTy : (tb : Table) → Fin (tcTables nBuf tb) → BufTy
  | .hbm, ⟨0, _⟩ => ⟨S128x8732x4, .f32⟩
  | .hbm, ⟨1, _⟩ => ⟨S128x8732x21, .f32⟩
  | .hbm, ⟨2, _⟩ => ⟨S8732x4, .f32⟩
  | .hbm, ⟨3, _⟩ => ⟨S128x21x8732, .f32⟩
  | .hbm, ⟨4, _⟩ => ⟨S_, .f32⟩
  | .hbm, ⟨5, _⟩ => ⟨S_, .f32⟩
  | .hbm, ⟨6, _⟩ => ⟨S128x24x8832, .f32⟩
  | .hbm, ⟨7, _⟩ => ⟨S128x4x8732, .f32⟩
  | .hbm, ⟨8, _⟩ => ⟨S_, .i32⟩
  | .hbm, ⟨9, _⟩ => ⟨S_, .f32⟩
  | .hbm, ⟨10, _⟩ => ⟨S128x8x8832, .f32⟩
  | .hbm, ⟨11, _⟩ => ⟨S4x8732, .f32⟩
  | .hbm, ⟨12, _⟩ => ⟨S_, .i32⟩
  | .hbm, ⟨13, _⟩ => ⟨S_, .f32⟩
  | .hbm, ⟨14, _⟩ => ⟨S8x8832, .f32⟩
  | .hbm, ⟨15, _⟩ => ⟨S128x8x24x256, .f32⟩
  | .hbm, ⟨16, _⟩ => ⟨S128x5x21x200, .f32⟩
  | .hbm, ⟨17, _⟩ => ⟨S128x21x200x5, .f32⟩
  | .local _ .vmem, ⟨0, _⟩ => ⟨S1x24x8832, .f32⟩
  | .local _ .vmem, ⟨1, _⟩ => ⟨S1x24x8832, .f32⟩
  | .local _ .vmem, ⟨2, _⟩ => ⟨S1x8x8832, .f32⟩
  | .local _ .vmem, ⟨3, _⟩ => ⟨S1x8x8832, .f32⟩
  | .local _ .vmem, ⟨4, _⟩ => ⟨S8x8832, .f32⟩
  | .local _ .vmem, ⟨5, _⟩ => ⟨S1x8x24x256, .f32⟩
  | .local _ .vmem, ⟨6, _⟩ => ⟨S1x8x24x256, .f32⟩
  | .local _ .vmem, ⟨7, _⟩ => ⟨S24x8832, .f32⟩
  | .local _ .vmem, ⟨8, _⟩ => ⟨S24x256, .f32⟩
  | .local _ .vmem, ⟨9, _⟩ => ⟨S24x256, .f32⟩
  | .local _ .vmem, ⟨10, _⟩ => ⟨S24x256, .f32⟩
  | .local _ .vmem, ⟨11, _⟩ => ⟨S24x256, .f32⟩
  | .local _ .vmem, ⟨12, _⟩ => ⟨S24x256, .f32⟩
  | .local _ .vmem, ⟨13, _⟩ => ⟨S24x256, .f32⟩
  | _, _ => ⟨S128x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_call1_v0 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_call2_v0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_39 : BitVec 32 := 0#32
  let c200_i32 : BitVec 32 := 200#32
  let v104 : BitVec 32 := Scalar.addi c0_i32_39 c200_i32
  let c1_i32_40 : BitVec 32 := 1#32
  ⟨c0_i32_39, v104, c1_i32_40⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x24x8832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x8832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x8832 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x24x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S128x8732x4 : Shape := ⟨3, ![128, 8732, 4]⟩
abbrev S128x8732x21 : Shape := ⟨3, ![128, 8732, 21]⟩
abbrev S8732x4 : Shape := ⟨2, ![8732, 4]⟩
abbrev S_ : Shape := ⟨0, ![]⟩
abbrev S128x8732 : Shape := ⟨2, ![128, 8732]⟩
abbrev S128x8732x1 : Shape := ⟨3, ![128, 8732, 1]⟩
abbrev S8732x2 : Shape := ⟨2, ![8732, 2]⟩
abbrev S1x8732x2 : Shape := ⟨3, ![1, 8732, 2]⟩
abbrev S128x8732x2 : Shape := ⟨3, ![128, 8732, 2]⟩
abbrev S128x21x8732 : Shape := ⟨3, ![128, 21, 8732]⟩
abbrev S128x20x8732 : Shape := ⟨3, ![128, 20, 8732]⟩
abbrev S128x20x200 : Shape := ⟨3, ![128, 20, 200]⟩
abbrev S128x20x200x1 : Shape := ⟨4, ![128, 20, 200, 1]⟩
abbrev S128x20x200x4 : Shape := ⟨4, ![128, 20, 200, 4]⟩
abbrev S128x20x1x200 : Shape := ⟨4, ![128, 20, 1, 200]⟩
abbrev S128x20x200x200 : Shape := ⟨4, ![128, 20, 200, 200]⟩
abbrev S128x20x200x5 : Shape := ⟨4, ![128, 20, 200, 5]⟩
abbrev S128x1x200x5 : Shape := ⟨4, ![128, 1, 200, 5]⟩
abbrev S128x21x200x5 : Shape := ⟨4, ![128, 21, 200, 5]⟩

abbrev nBuf : Space → Nat
  | .hbm => 187
  | .vmem => 0
  | .smem => 0
  | _ => 0

abbrev hbmTy0_0 (i : Nat) : BufTy := match i % 128 with
  | 0 => ⟨S128x8732x4, .f32⟩
  | 1 => ⟨S128x8732x21, .f32⟩
  | 2 => ⟨S8732x4, .f32⟩
  | 3 => ⟨S_, .f32⟩
  | 4 => ⟨S128x8732, .f32⟩
  | 5 => ⟨S_, .f32⟩
  | 6 => ⟨S128x8732, .f32⟩
  | 7 => ⟨S128x8732, .f32⟩
  | 8 => ⟨S128x8732x1, .f32⟩
  | 9 => ⟨S128x8732x21, .f32⟩
  | 10 => ⟨S128x8732x21, .f32⟩
  | 11 => ⟨S128x8732x21, .f32⟩
  | 12 => ⟨S_, .f32⟩
  | 13 => ⟨S128x8732, .f32⟩
  | 14 => ⟨S128x8732x1, .f32⟩
  | 15 => ⟨S128x8732x21, .f32⟩
  | 16 => ⟨S128x8732x21, .f32⟩
  | 17 => ⟨S8732x2, .f32⟩
  | 18 => ⟨S1x8732x2, .f32⟩
  | 19 => ⟨S128x8732x2, .f32⟩
  | 20 => ⟨S_, .f32⟩
  | 21 => ⟨S128x8732x2, .f32⟩
  | 22 => ⟨S128x8732x2, .f32⟩
  | 23 => ⟨S8732x2, .f32⟩
  | 24 => ⟨S1x8732x2, .f32⟩
  | 25 => ⟨S128x8732x2, .f32⟩
  | 26 => ⟨S128x8732x2, .f32⟩
  | 27 => ⟨S128x8732x2, .f32⟩
  | 28 => ⟨S128x8732x2, .f32⟩
  | 29 => ⟨S8732x2, .f32⟩
  | 30 => ⟨S1x8732x2, .f32⟩
  | 31 => ⟨S128x8732x2, .f32⟩
  | 32 => ⟨S_, .f32⟩
  | 33 => ⟨S128x8732x2, .f32⟩
  | 34 => ⟨S128x8732x2, .f32⟩
  | 35 => ⟨S128x8732x2, .f32⟩
  | 36 => ⟨S128x8732x2, .f32⟩
  | 37 => ⟨S128x8732x2, .f32⟩
  | 38 => ⟨S_, .f32⟩
  | 39 => ⟨S128x8732x2, .f32⟩
  | 40 => ⟨S128x8732x2, .f32⟩
  | 41 => ⟨S128x8732x2, .f32⟩
  | 42 => ⟨S_, .f32⟩
  | 43 => ⟨S128x8732x2, .f32⟩
  | 44 => ⟨S128x8732x2, .f32⟩
  | 45 => ⟨S128x8732x2, .f32⟩
  | 46 => ⟨S128x8732x4, .f32⟩
  | 47 => ⟨S128x21x8732, .f32⟩
  | 48 => ⟨S128x20x8732, .f32⟩
  | 49 => ⟨S128x20x200, .f32⟩
  | 50 => ⟨S128x20x200, .i32⟩
  | 51 => ⟨S_, .f32⟩
  | 52 => ⟨S128x20x200, .f32⟩
  | 53 => ⟨S128x20x200, .i1⟩
  | 54 => ⟨S_, .i32⟩
  | 55 => ⟨S128x20x200, .i32⟩
  | 56 => ⟨S128x20x200, .i1⟩
  | 57 => ⟨S_, .i32⟩
  | 58 => ⟨S128x20x200, .i32⟩
  | 59 => ⟨S128x20x200, .i32⟩
  | 60 => ⟨S128x20x200, .i32⟩
  | 61 => ⟨S128x20x200x1, .i32⟩
  | 62 => ⟨S128x20x200x4, .f32⟩
  | 63 => ⟨S128x20x200x1, .f32⟩
  | 64 => ⟨S128x20x200, .f32⟩
  | 65 => ⟨S128x20x200x1, .f32⟩
  | 66 => ⟨S128x20x200, .f32⟩
  | 67 => ⟨S128x20x200x1, .f32⟩
  | 68 => ⟨S128x20x200, .f32⟩
  | 69 => ⟨S128x20x200x1, .f32⟩
  | 70 => ⟨S128x20x200, .f32⟩
  | 71 => ⟨S128x20x200, .f32⟩
  | 72 => ⟨S128x20x200, .f32⟩
  | 73 => ⟨S128x20x200, .f32⟩
  | 74 => ⟨S128x20x200x1, .f32⟩
  | 75 => ⟨S128x20x1x200, .f32⟩
  | 76 => ⟨S128x20x200x200, .f32⟩
  | 77 => ⟨S128x20x200x200, .f32⟩
  | 78 => ⟨S128x20x200x200, .f32⟩
  | 79 => ⟨S128x20x200x1, .f32⟩
  | 80 => ⟨S128x20x1x200, .f32⟩
  | 81 => ⟨S128x20x200x200, .f32⟩
  | 82 => ⟨S128x20x200x200, .f32⟩
  | 83 => ⟨S128x20x200x200, .f32⟩
  | 84 => ⟨S128x20x200x200, .f32⟩
  | 85 => ⟨S_, .f32⟩
  | 86 => ⟨S128x20x200x200, .f32⟩
  | 87 => ⟨S128x20x200x200, .f32⟩
  | 88 => ⟨S128x20x200x1, .f32⟩
  | 89 => ⟨S128x20x1x200, .f32⟩
  | 90 => ⟨S128x20x200x200, .f32⟩
  | 91 => ⟨S128x20x200x200, .f32⟩
  | 92 => ⟨S128x20x200x200, .f32⟩
  | 93 => ⟨S128x20x200x1, .f32⟩
  | 94 => ⟨S128x20x1x200, .f32⟩
  | 95 => ⟨S128x20x200x200, .f32⟩
  | 96 => ⟨S128x20x200x200, .f32⟩
  | 97 => ⟨S128x20x200x200, .f32⟩
  | 98 => ⟨S128x20x200x200, .f32⟩
  | 99 => ⟨S_, .f32⟩
  | 100 => ⟨S128x20x200x200, .f32⟩
  | 101 => ⟨S128x20x200x200, .f32⟩
  | 102 => ⟨S128x20x200x200, .f32⟩
  | 103 => ⟨S128x20x200x1, .f32⟩
  | 104 => ⟨S128x20x1x200, .f32⟩
  | 105 => ⟨S128x20x200x200, .f32⟩
  | 106 => ⟨S128x20x200x200, .f32⟩
  | 107 => ⟨S128x20x200x200, .f32⟩
  | 108 => ⟨S128x20x200x200, .f32⟩
  | 109 => ⟨S128x20x200x200, .f32⟩
  | 110 => ⟨S_, .f32⟩
  | 111 => ⟨S128x20x200x200, .f32⟩
  | 112 => ⟨S128x20x200x200, .i1⟩
  | 113 => ⟨S128x20x200, .i32⟩
  | 114 => ⟨S_, .i1⟩
  | 115 => ⟨S128x20x200, .i1⟩
  | 116 => ⟨S_, .i32⟩
  | 117 => ⟨S_, .i32⟩
  | 118 => ⟨S128x20x200x200, .i1⟩
  | 119 => ⟨S128x20x200, .i32⟩
  | 120 => ⟨S128x20x200, .i1⟩
  | 121 => ⟨S_, .i32⟩
  | 122 => ⟨S_, .i32⟩
  | 123 => ⟨S128x20x200, .i1⟩
  | 124 => ⟨S_, .i32⟩
  | 125 => ⟨S_, .i1⟩
  | 126 => ⟨S_, .i32⟩
  | 127 => ⟨S_, .i32⟩
  | _ => ⟨S128x8732x4, .f32⟩

abbrev hbmTy0_1 (i : Nat) : BufTy := match i % 128 with
  | 0 => ⟨S128x20x200x1, .i1⟩
  | 1 => ⟨S128x20x200x200, .i1⟩
  | 2 => ⟨S128x20x200x200, .i1⟩
  | 3 => ⟨S_, .i1⟩
  | 4 => ⟨S128x20x200, .i1⟩
  | 5 => ⟨S_, .i32⟩
  | 6 => ⟨S128x20x200, .i32⟩
  | 7 => ⟨S128x20x200, .i1⟩
  | 8 => ⟨S128x20x200, .i1⟩
  | 9 => ⟨S128x20x200, .i1⟩
  | 10 => ⟨S128x20x200, .i1⟩
  | 11 => ⟨S_, .i32⟩
  | 12 => ⟨S_, .i32⟩
  | 13 => ⟨S128x20x200, .i1⟩
  | 14 => ⟨S128x20x200, .i32⟩
  | 15 => ⟨S128x20x200, .i1⟩
  | 16 => ⟨S128x20x200, .i32⟩
  | 17 => ⟨S_, .i32⟩
  | 18 => ⟨S128x20x200, .i32⟩
  | 19 => ⟨S128x20x200, .i1⟩
  | 20 => ⟨S_, .i32⟩
  | 21 => ⟨S128x20x200, .i32⟩
  | 22 => ⟨S128x20x200, .i32⟩
  | 23 => ⟨S128x20x200, .i32⟩
  | 24 => ⟨S128x20x200x1, .i32⟩
  | 25 => ⟨S128x20x200, .i1⟩
  | 26 => ⟨S_, .i32⟩
  | 27 => ⟨S128x20x200, .i32⟩
  | 28 => ⟨S128x20x200, .i1⟩
  | 29 => ⟨S_, .i32⟩
  | 30 => ⟨S128x20x200, .i32⟩
  | 31 => ⟨S128x20x200, .i32⟩
  | 32 => ⟨S128x20x200, .i32⟩
  | 33 => ⟨S128x20x200x1, .i32⟩
  | 34 => ⟨S128x20x200, .f32⟩
  | 35 => ⟨S_, .f32⟩
  | 36 => ⟨S_, .f32⟩
  | 37 => ⟨S128x20x200, .f32⟩
  | 38 => ⟨S128x20x200, .f32⟩
  | 39 => ⟨S128x20x200x1, .i1⟩
  | 40 => ⟨S128x20x200x1, .i32⟩
  | 41 => ⟨S_, .i32⟩
  | 42 => ⟨S128x20x200x1, .i32⟩
  | 43 => ⟨S128x20x200x1, .i1⟩
  | 44 => ⟨S_, .i32⟩
  | 45 => ⟨S128x20x200x1, .i32⟩
  | 46 => ⟨S128x20x200x1, .i32⟩
  | 47 => ⟨S128x20x200x1, .i32⟩
  | 48 => ⟨S128x20x200x4, .f32⟩
  | 49 => ⟨S_, .f32⟩
  | 50 => ⟨S_, .f32⟩
  | 51 => ⟨S128x20x200x4, .i1⟩
  | 52 => ⟨S128x20x200x4, .f32⟩
  | 53 => ⟨S128x20x200x4, .f32⟩
  | 54 => ⟨S128x20x200x1, .f32⟩
  | 55 => ⟨S128x20x200x5, .f32⟩
  | 56 => ⟨S_, .f32⟩
  | 57 => ⟨S128x1x200x5, .f32⟩
  | 58 => ⟨S128x21x200x5, .f32⟩
  | _ => ⟨S128x8732x4, .f32⟩

abbrev hbmTy (i : Nat) : BufTy := match i / 128 with
  | 0 => hbmTy0_0 i
  | 1 => hbmTy0_1 i
  | _ => ⟨S128x8732x4, .f32⟩

abbrev bufTy : (tb : Table) → Fin (tcTables nBuf tb) → BufTy
  | .hbm, ⟨i, _⟩ => hbmTy i
  | _, _ => ⟨S128x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_values : Ref sig .tc := ⟨.hbm, 49, rfl⟩
abbrev main_indices : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_10 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c_11 : Ref sig .tc := ⟨.hbm, 114, rfl⟩
abbrev main_v96 : Ref sig .tc := ⟨.hbm, 115, rfl⟩
abbrev main_c_12 : Ref sig .tc := ⟨.hbm, 116, rfl⟩
abbrev main_c_13 : Ref sig .tc := ⟨.hbm, 117, rfl⟩
abbrev main_v97_0 : Ref sig .tc := ⟨.hbm, 118, rfl⟩
abbrev main_v97_1 : Ref sig .tc := ⟨.hbm, 119, rfl⟩
abbrev main_v97_2 : Ref sig .tc := ⟨.hbm, 120, rfl⟩
abbrev main_v97_3 : Ref sig .tc := ⟨.hbm, 121, rfl⟩
abbrev main_v97_4 : Ref sig .tc := ⟨.hbm, 122, rfl⟩
abbrev main_v97_5 : Ref sig .tc := ⟨.hbm, 123, rfl⟩
abbrev main_while0c_c_22 : Ref sig .tc := ⟨.hbm, 124, rfl⟩
abbrev main_while0c_v111 : Ref sig .tc := ⟨.hbm, 125, rfl⟩
abbrev main_while0b_c_22 : Ref sig .tc := ⟨.hbm, 126, rfl⟩
abbrev main_while0b_v111 : Ref sig .tc := ⟨.hbm, 127, rfl⟩
abbrev main_while0b_v112 : Ref sig .tc := ⟨.hbm, 128, rfl⟩
abbrev main_while0b_v113 : Ref sig .tc := ⟨.hbm, 129, rfl⟩
abbrev main_while0b_v114 : Ref sig .tc := ⟨.hbm, 130, rfl⟩
abbrev main_while0b_c_23 : Ref sig .tc := ⟨.hbm, 131, rfl⟩
abbrev main_while0b_v115 : Ref sig .tc := ⟨.hbm, 132, rfl⟩
abbrev main_while0b_v116 : Ref sig .tc := ⟨.hbm, 133, rfl⟩
abbrev main_while0b_v117 : Ref sig .tc := ⟨.hbm, 134, rfl⟩
abbrev main_while0b_v118 : Ref sig .tc := ⟨.hbm, 135, rfl⟩
abbrev main_while0b_v119 : Ref sig .tc := ⟨.hbm, 136, rfl⟩
abbrev main_while0b_v120 : Ref sig .tc := ⟨.hbm, 137, rfl⟩
abbrev main_while0b_v121 : Ref sig .tc := ⟨.hbm, 138, rfl⟩
abbrev main_while0b_c_24 : Ref sig .tc := ⟨.hbm, 139, rfl⟩
abbrev main_while0b_v122 : Ref sig .tc := ⟨.hbm, 140, rfl⟩
abbrev main_v98 : Ref sig .tc := ⟨.hbm, 141, rfl⟩
abbrev main_call1_v0 : Ref sig .tc := ⟨.hbm, 142, rfl⟩
abbrev main_call1_v1_0 : Ref sig .tc := ⟨.hbm, 143, rfl⟩
abbrev main_v99 : Ref sig .tc := ⟨.hbm, 144, rfl⟩
abbrev main_call2_c : Ref sig .tc := ⟨.hbm, 145, rfl⟩
abbrev main_call2_v0 : Ref sig .tc := ⟨.hbm, 146, rfl⟩
abbrev main_call2_v1 : Ref sig .tc := ⟨.hbm, 147, rfl⟩
abbrev main_call2_c_0 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_v100 : Ref sig .tc := ⟨.hbm, 153, rfl⟩
abbrev main_call3_c : Ref sig .tc := ⟨.hbm, 154, rfl⟩
abbrev main_call3_v0 : Ref sig .tc := ⟨.hbm, 155, rfl⟩
abbrev main_call3_v1 : Ref sig .tc := ⟨.hbm, 156, rfl⟩
abbrev main_call3_c_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_v101 : Ref sig .tc := ⟨.hbm, 162, rfl⟩
abbrev main_cst_14 : Ref sig .tc := ⟨.hbm, 163, rfl⟩
abbrev main_call4_v0 : Ref sig .tc := ⟨.hbm, 164, rfl⟩
abbrev main_call4_v1 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_call5_c : Ref sig .tc := ⟨.hbm, 169, rfl⟩
abbrev main_call5_v0 : Ref sig .tc := ⟨.hbm, 170, rfl⟩
abbrev main_call5_v1 : Ref sig .tc := ⟨.hbm, 171, rfl⟩
abbrev main_call5_c_0 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_v105 : Ref sig .tc := ⟨.hbm, 176, rfl⟩
abbrev main_cst_15 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_cst_16 : Ref sig .tc := ⟨.hbm, 184, rfl⟩
abbrev main_v109 : Ref sig .tc := ⟨.hbm, 185, rfl⟩
abbrev main_v110 : Ref sig .tc := ⟨.hbm, 186, rfl⟩

abbrev nD : Nat := 1
abbrev τ : Topo := Topo.v7x

variable {F : FTy → Type} [FloatOps F]

abbrev main_while0_count : Scf.Loop 32 := ⟨0#32, 200#32, 1#32⟩
-- ==== Proof.ReferenceIdealRun.lean ====
/-
  The reference's run: @main terminates, its arguments end unchanged, every counter is zero, and the result is what the
  fold of its operations leaves (`finalContents`).
-/
module

public import proofs.«01_k».proof.Proof.Gen.ReferenceIdeal.Run
public import Idealize.ShloMosaic.Lib.Quiescent
public import Idealize.ShloMosaic.Lib.Claim

@[expose] public section

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The reference each operation after the loop writes, in order. -/
abbrev tailRefs : List (Ref sig .tc) :=
  [main_v98, main_call1_v0, main_call1_v1_0, main_v99, main_call2_c, main_call2_v0, main_call2_v1, main_call2_c_0,
    main_call2_v2, main_call2_v3, main_call2_v4, main_call2_v5, main_v100, main_call3_c, main_call3_v0, main_call3_v1,
    main_call3_c_0, main_call3_v2, main_call3_v3, main_call3_v4, main_call3_v5, main_v101, main_cst_14, main_call4_v0,
    main_call4_v1, main_v102, main_v103, main_v104, main_call5_c, main_call5_v0, main_call5_v1, main_call5_c_0,
    main_call5_v2, main_call5_v3, main_call5_v4, main_v105, main_cst_15, main_call6_v0, main_call6_v1, main_call6_v2,
    main_v106, main_v107, main_v108, main_cst_16, main_v109, main_v110]
theorem tail_writes : ((postI (F := F)).flatten).Forall fun op => op.writes ⊆ (tailRefs.map (Proc.devRef (τ := τ) .tc)).toFinset :=
  StableHlo.forall_writes_sub_of_map rfl

/-- Every reference @main writes: before the loop, by its condition, in a trip, after it. -/
abbrev written : List (Ref sig .tc) :=
  hostOps0_W ++ condOps_W ++ while0Ops0_W ++ while0Ops0_1_W ++ while0Ops0_2_W ++ tailRefs

/-- A reference no trip writes holds before every trip what it held at the loop's entry. -/
theorem atK_kept (c : Dev nD) (b : Ref sig .tc) (hb : b ∉ condOps_W ∧ b ∉ while0Ops0_W ∧ b ∉ while0Ops0_1_W ∧ b ∉ while0Ops0_2_W) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub while0Ops0_2 _ while0Ops0_2_writes hb.2.2.2, after_of_writes_sub while0Ops0_1 _ while0Ops0_1_writes hb.2.2.1,
      after_of_writes_sub while0Ops0 _ while0Ops0_writes hb.2.1, after_of_writes_sub condOps _ condOps_writes hb.1]
    exact atK_kept c b hb k

/-- A reference @main never writes ends as launched. -/
theorem final_kept (c : Dev nD) (b : Ref sig .tc) (hb : b ∉ written) :
    finalContents condOps preI bodyI postI 200 m c (Proc.devRef .tc b) = m ((c.tc : Thread nD τ).loc b) := by
  simp only [written, List.mem_append, not_or] at hb
  obtain ⟨⟨⟨⟨⟨h0, hc⟩, w0⟩, w1⟩, w2⟩, ht⟩ := hb
  rw [finalContents, afterL_eq_after_flatten, after_of_writes_sub _ _ tail_writes ht, after_of_writes_sub condOps _ condOps_writes hc,
    show atTrip condOps bodyI (entryContents preI m) 200 c = atK m 200 c from rfl, atK_kept m c b ⟨hc, w0, w1, w2⟩ 200]
  simp only [entryContents, afterL_cons, afterL_nil]
  rw [after_of_writes_sub hostOps0 _ hostOps0_writes h0]; try rfl

/-- The reference's run. -/
theorem run_main : θ_run (defs (F := F)) (onTc (τ := τ) (main (F := F))) ⟨m, fun _ => 0, ρ⟩ (fun r => ∀ c : Dev nD,
    r.2.mem ((c.tc : Thread nD τ).loc main_v110) = finalContents condOps preI bodyI postI 200 m c (Proc.devRef .tc main_v110)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run _ _ _).mono (fun _ h c => ⟨h c main_v110 rfl, (h c main_arg0 rfl).trans (final_kept m c main_arg0 (by decide +kernel)),
    (h c main_arg1 rfl).trans (final_kept m c main_arg1 (by decide +kernel)),
    (h c main_arg2 rfl).trans (final_kept m c main_arg2 (by decide +kernel))⟩) (run_fold m ρ)

/-- The reference declares no semaphore. -/
theorem counters_zero (s : MemSt nD τ sig (Elt F)) : s.sem = fun _ => 0 := sem_eq_zero_of_no_sems rfl s

end Cert.Proof.ReferenceIdeal

end
-- ==== Proof.KernelIdealTrip.lean ====
/-
  The kernel's counted loop as a recursion on plain vectors. `St` is what the seven scratch buffers and the carried
  count hold between two trips, `next` is one trip of it (each field the printed payload of the store that sets it), and
  `iter k` is the state before trip `k`. `trip` is the loop's invariant: before trip `k` the scratch buffers hold
  `iter k`, proved by one run of the region at a symbolic trip.
-/
module

public import proofs.«01_k».proof.Proof.Gen.KernelIdeal
public import proofs.«01_k».proof.Proof.Gen.KernelIdeal.Loops
public import proofs.«01_k».proof.Proof.Gen.KernelIdeal.Frame
public import Idealize.ShloMosaic.Lib.VecWindow
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The numbers of the lanes of a score row. -/
abbrev lanes : IVec S24x8832 32 := iota .tc S24x8832 32 [1] iota_S24x8832_d1_w32
/-- The numbers of the slots of a row of picks. -/
abbrev slots : IVec S24x256 32 := iota .tc S24x256 32 [1] iota_S24x256_d1_w32

/-- The state between two trips: the scores not yet taken, the kept boxes' corners, areas and scores, the kept count. -/
structure St (F : FTy → Type) where
  s : FVec F S24x8832 .f32
  x1 : FVec F S24x256 .f32
  y1 : FVec F S24x256 .f32
  x2 : FVec F S24x256 .f32
  y2 : FVec F S24x256 .f32
  ar : FVec F S24x256 .f32
  va : FVec F S24x256 .f32
  cnt : IVec S24x1 32

section Step

variable (bx : FVec F S8x8832 .f32) (σ : St F)

/-- The slots the trip writes (none where the candidate is not kept). -/
abbrev St.slot : IVec S24x256 1 :=
  k0_pay14 slots σ.cnt (k0_pay2 σ.s) (k0_pay7 lanes bx σ.s) (k0_pay10 lanes bx σ.s) σ.y1 σ.ar
    (k0_pay11 lanes bx σ.s σ.x1 σ.x2) (k0_pay12 lanes bx σ.s σ.y2)
/-- Whether the trip keeps its candidate. -/
abbrev St.keep : IVec S24x1 1 :=
  k0_pay13 slots σ.cnt (k0_pay2 σ.s) (k0_pay7 lanes bx σ.s) (k0_pay10 lanes bx σ.s) σ.y1 σ.ar
    (k0_pay11 lanes bx σ.s σ.x1 σ.x2) (k0_pay12 lanes bx σ.s σ.y2)

/-- One trip. -/
def St.next : St F where
  s := k0_pay4 lanes σ.s
  x1 := k0_pay16 slots σ.cnt (k0_pay2 σ.s) (k0_pay6 lanes bx σ.s) (k0_pay7 lanes bx σ.s) (k0_pay10 lanes bx σ.s) σ.x1 σ.y1 σ.ar
    (k0_pay11 lanes bx σ.s σ.x1 σ.x2) (k0_pay12 lanes bx σ.s σ.y2)
  y1 := k0_pay32 σ.y1 (σ.slot bx) (k0_pay17 (k0_pay7 lanes bx σ.s))
  x2 := k0_pay33 (k0_pay8 lanes bx σ.s) σ.x2 (σ.slot bx)
  y2 := k0_pay34 (k0_pay9 lanes bx σ.s) σ.y2 (σ.slot bx)
  ar := k0_pay35 (k0_pay10 lanes bx σ.s) σ.ar (σ.slot bx)
  va := k0_pay15 slots σ.cnt (k0_pay2 σ.s) (k0_pay7 lanes bx σ.s) (k0_pay10 lanes bx σ.s) σ.y1 σ.ar
    (k0_pay11 lanes bx σ.s σ.x1 σ.x2) (k0_pay12 lanes bx σ.s σ.y2) σ.va
  cnt := k0_pay36 σ.cnt (σ.keep bx)

/-- The state before trip `k` of a loop entered at `σ`. -/
def St.iter : ℕ → St F
  | 0 => σ
  | k + 1 => (St.iter k).next bx

theorem St.iter_succ (k : ℕ) : σ.iter bx (k + 1) = (σ.iter bx k).next bx := rfl

end Step

/-- A memref held whole at the vector `x`. -/
abbrev holds (c : Dev nD) {sp : Space} {S : Shape} {e : EltTy} (M : Memref sig .tc sp S e) (x : S.Idx → Elt F e) : sProp 𝕄 :=
  owns (c : Thread nD τ) M fullShare x

/-- The scratch buffers and the carried count before trip `k` of a loop entered at `σ`. -/
abbrev tripInv (c : Dev nD) (arg5 : Memref sig .tc .vmem S24x8832 .f32) (arg6 arg7 arg8 arg9 arg10 arg11 : Memref sig .tc .vmem S24x256 .f32)
    (bx : FVec F S8x8832 .f32) (σ : St F) (k : ℕ) (acc : IVec S24x1 32) : sProp 𝕄 :=
  iprop(⌜acc = (σ.iter bx k).cnt⌝ ∗ holds c arg5 (σ.iter bx k).s ∗ holds c arg6 (σ.iter bx k).x1
    ∗ holds c arg7 (σ.iter bx k).y1 ∗ holds c arg8 (σ.iter bx k).x2 ∗ holds c arg9 (σ.iter bx k).y2
    ∗ holds c arg10 (σ.iter bx k).ar ∗ holds c arg11 (σ.iter bx k).va)

set_option warn.classDefReducibility false in
/-- The loop's invariant: the scratch buffers hold `iter k`, and the carried count is its. -/
def trip (c : Dev nD) (i : grid0.Coords)
    (arg1 : Memref sig .tc .vmem S1x24x8832 .f32) (harg1 : arg1.IsWhole) (arg2 : Memref sig .tc .vmem S1x8x8832 .f32) (harg2 : arg2.IsWhole)
    (arg3 : Memref sig .tc .vmem S8x8832 .f32) (harg3 : arg3.IsWhole) (arg4 : Memref sig .tc .vmem S1x8x24x256 .f32) (harg4 : arg4.IsWhole)
    (arg5 : Memref sig .tc .vmem S24x8832 .f32) (harg5 : arg5.IsWhole) (arg6 : Memref sig .tc .vmem S24x256 .f32) (harg6 : arg6.IsWhole)
    (arg7 : Memref sig .tc .vmem S24x256 .f32) (harg7 : arg7.IsWhole) (arg8 : Memref sig .tc .vmem S24x256 .f32) (harg8 : arg8.IsWhole)
    (arg9 : Memref sig .tc .vmem S24x256 .f32) (harg9 : arg9.IsWhole) (arg10 : Memref sig .tc .vmem S24x256 .f32) (harg10 : arg10.IsWhole)
    (arg11 : Memref sig .tc .vmem S24x256 .f32) (harg11 : arg11.IsWhole)
    (v77 : FVec F S8x8832 .f32) (v82 : FVec F S24x256 .f32) (v83 : Vec F S24x256 .f32) (σ : St F) :
    LoopInvTy_k0_t1 (F := F) Unit ℕ (UR sig nD τ) ℕ Variants.none c none Set.univ i arg1 harg1 arg2 harg2 arg3 harg3 arg4 harg4 arg5 harg5
      arg6 harg6 arg7 harg7 arg8 harg8 arg9 harg9 arg10 harg10 arg11 harg11 lanes v77 v82 v83 slots σ.cnt where
  inv k acc := tripInv c arg5 arg6 arg7 arg8 arg9 arg10 arg11 v77 σ k acc
  step k acc := by
    unfold tripInv; rw [St.iter_succ]
    generalize σ.iter v77 k = ω
    unfold holds owns k0_t1_body
    iintro ⟨%ha, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩⟩
    subst ha
    obtain ⟨s, x1, y1, x2, y2, ar, va, cnt⟩ := ω
    dsimp only at h5 h6 h7 h8 h9 h10 h11
    subst h5 h6 h7 h8 h9 h10 h11
    sl_exec
    sl_step
    have e5 := View.readAt_full arg5.view f5 inb_S24x8832_S24x8832_0_0
    have e6 := View.readAt_full arg6.view f6 inb_S24x256_S24x256_0_0
    have e7 := View.readAt_full arg7.view f7 inb_S24x256_S24x256_0_0
    have e8 := View.readAt_full arg8.view f8 inb_S24x256_S24x256_0_0
    have e9 := View.readAt_full arg9.view f9 inb_S24x256_S24x256_0_0
    have e10 := View.readAt_full arg10.view f10 inb_S24x256_S24x256_0_0
    have e11 := View.readAt_full arg11.view f11 inb_S24x256_S24x256_0_0
    isplitr
    · ipureintro; dsimp only [St.next, St.slot, St.keep]; rw [← e5, ← e6, ← e7, ← e8, ← e9, ← e10]; try rfl
    isplitl [H5]
    · iexists _; isplitr; swap; (· iexact H5); ipureintro
      refine (View.read_writes_full _ _ _ _ _).trans ?_; dsimp only [St.next, St.slot, St.keep]; rw [← e5]; try rfl
    isplitl [H6]
    · iexists _; isplitr; swap; (· iexact H6); ipureintro
      refine (View.read_writes_full _ _ _ _ _).trans ?_; dsimp only [St.next, St.slot, St.keep]; rw [← e5, ← e6, ← e7, ← e8, ← e9, ← e10]; try rfl
    isplitl [H7]
    · iexists _; isplitr; swap; (· iexact H7); ipureintro
      refine (View.read_writes_full _ _ _ _ _).trans ?_; dsimp only [St.next, St.slot, St.keep]; rw [← e5, ← e6, ← e7, ← e8, ← e9, ← e10]; try rfl
    isplitl [H8]
    · iexists _; isplitr; swap; (· iexact H8); ipureintro
      refine (View.read_writes_full _ _ _ _ _).trans ?_; dsimp only [St.next, St.slot, St.keep]; rw [← e5, ← e6, ← e7, ← e8, ← e9, ← e10]; try rfl
    isplitl [H9]
    · iexists _; isplitr; swap; (· iexact H9); ipureintro
      refine (View.read_writes_full _ _ _ _ _).trans ?_; dsimp only [St.next, St.slot, St.keep]; rw [← e5, ← e6, ← e7, ← e8, ← e9, ← e10]; try rfl
    isplitl [H10]
    · iexists _; isplitr; swap; (· iexact H10); ipureintro
      refine (View.read_writes_full _ _ _ _ _).trans ?_; dsimp only [St.next, St.slot, St.keep]; rw [← e5, ← e6, ← e7, ← e8, ← e9, ← e10]; try rfl
    iexists _; isplitr; swap; (· iexact H11); ipureintro
    refine (View.read_writes_full _ _ _ _ _).trans ?_; dsimp only [St.next, St.slot, St.keep]; rw [← e5, ← e6, ← e7, ← e8, ← e9, ← e10, ← e11]; try rfl

end Cert.Proof.KernelIdeal

end
-- ==== Proof.KernelIdealBody.lean ====
/-
  The kernel's body, run once at symbolic operands: from its three operand blocks it leaves `outBlock` of them in the
  result's block.
-/
module

public import proofs.«01_k».proof.Proof.KernelIdealTrip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The decoded boxes (corners and area, lane by lane) of the location block and the priors. -/
abbrev boxes (X2 : Vec F S1x8x8832 .f32) (X3 : Vec F S8x8832 .f32) : FVec F S8x8832 .f32 :=
  k0_pay23 (k0_pay19 X2) (k0_pay20 X3) (k0_pay21 X3) (k0_pay22 X2)

/-- The state the loop is entered at: the scores of the confidence block, no box kept. -/
def St.start (X1 : Vec F S1x24x8832 .f32) : St F where
  s := k0_pay18 X1
  x1 := k0_pay24
  y1 := k0_pay26 k0_pay25
  x2 := k0_pay27
  y2 := k0_pay28
  ar := k0_pay29
  va := k0_pay30
  cnt := k0_pay31

/-- The state the loop is left at. -/
def St.final (X1 : Vec F S1x24x8832 .f32) (X2 : Vec F S1x8x8832 .f32) (X3 : Vec F S8x8832 .f32) : St F :=
  (St.start X1).iter (boxes X2 X3) k0_t1_loop.trips

/-- The eight planes stored of a state, the last first. -/
def planes (σ : St F) : List (View.Piece (Elt F) S1x8x24x256 .f32) :=
  [⟨Rect.unit (s := S1x8x24x256) ![0, 7, 0, 0] S1x1x24x256.size inb_S1x8x24x256_S1x1x24x256_0_7_0_0, k0_pay1 (k0_pay42 (F := F))⟩,
   ⟨Rect.unit (s := S1x8x24x256) ![0, 6, 0, 0] S1x1x24x256.size inb_S1x8x24x256_S1x1x24x256_0_6_0_0, k0_pay44 (F := F)⟩,
   ⟨Rect.unit (s := S1x8x24x256) ![0, 5, 0, 0] S1x1x24x256.size inb_S1x8x24x256_S1x1x24x256_0_5_0_0, k0_pay43 (F := F)⟩,
   ⟨Rect.unit (s := S1x8x24x256) ![0, 4, 0, 0] S1x1x24x256.size inb_S1x8x24x256_S1x1x24x256_0_4_0_0, k0_pay41 σ.y2⟩,
   ⟨Rect.unit (s := S1x8x24x256) ![0, 3, 0, 0] S1x1x24x256.size inb_S1x8x24x256_S1x1x24x256_0_3_0_0, k0_pay40 σ.x2⟩,
   ⟨Rect.unit (s := S1x8x24x256) ![0, 2, 0, 0] S1x1x24x256.size inb_S1x8x24x256_S1x1x24x256_0_2_0_0, k0_pay39 σ.y1⟩,
   ⟨Rect.unit (s := S1x8x24x256) ![0, 1, 0, 0] S1x1x24x256.size inb_S1x8x24x256_S1x1x24x256_0_1_0_0, k0_pay38 σ.x1⟩,
   ⟨Rect.unit (s := S1x8x24x256) ![0, 0, 0, 0] S1x1x24x256.size inb_S1x8x24x256_S1x1x24x256_0_0_0_0, k0_pay37 σ.va⟩]

/-- They cover the block. -/
theorem planes_cover (σ : St F) (y : S1x8x24x256.Idx) : ∃ p ∈ planes σ, y ∈ p.1.set :=
  View.cover_of_tiledL (planes σ) S1x1x24x256.size (by sl_kernel_rfl) y

/-- What the body leaves in the result's block. -/
def outBlock (X1 : Vec F S1x24x8832 .f32) (X2 : Vec F S1x8x8832 .f32) (X3 : Vec F S8x8832 .f32) : S1x8x24x256.Idx → Elt F .f32 :=
  View.canon (planes (St.final X1 X2 X3))

/-- The body's run, the scratch buffers at anything before it and after it. -/
theorem body_run (c : Dev nD) (i : grid0.Coords)
    (arg1 : Memref sig .tc .vmem S1x24x8832 .f32) (harg1 : arg1.IsWhole) (arg2 : Memref sig .tc .vmem S1x8x8832 .f32) (harg2 : arg2.IsWhole)
    (arg3 : Memref sig .tc .vmem S8x8832 .f32) (harg3 : arg3.IsWhole) (arg4 : Memref sig .tc .vmem S1x8x24x256 .f32) (harg4 : arg4.IsWhole)
    (arg5 : Memref sig .tc .vmem S24x8832 .f32) (harg5 : arg5.IsWhole) (arg6 : Memref sig .tc .vmem S24x256 .f32) (harg6 : arg6.IsWhole)
    (arg7 : Memref sig .tc .vmem S24x256 .f32) (harg7 : arg7.IsWhole) (arg8 : Memref sig .tc .vmem S24x256 .f32) (harg8 : arg8.IsWhole)
    (arg9 : Memref sig .tc .vmem S24x256 .f32) (harg9 : arg9.IsWhole) (arg10 : Memref sig .tc .vmem S24x256 .f32) (harg10 : arg10.IsWhole)
    (arg11 : Memref sig .tc .vmem S24x256 .f32) (harg11 : arg11.IsWhole)
    (X1 : Vec F S1x24x8832 .f32) (X2 : Vec F S1x8x8832 .f32) (X3 : Vec F S8x8832 .f32) (Q : PUnit → sProp 𝕄) :
    iprop(holds c arg1 X1 ∗ holds c arg2 X2 ∗ holds c arg3 X3 ∗ (∃ x, holds c arg4 x)
      ∗ (∃ x, holds c arg5 x) ∗ (∃ x, holds c arg6 x) ∗ (∃ x, holds c arg7 x) ∗ (∃ x, holds c arg8 x) ∗ (∃ x, holds c arg9 x)
      ∗ (∃ x, holds c arg10 x) ∗ (∃ x, holds c arg11 x)
      ∗ (iprop(holds c arg1 X1 ∗ holds c arg2 X2 ∗ holds c arg3 X3 ∗ holds c arg4 (outBlock X1 X2 X3)
          ∗ (∃ x, holds c arg5 x) ∗ (∃ x, holds c arg6 x) ∗ (∃ x, holds c arg7 x) ∗ (∃ x, holds c arg8 x) ∗ (∃ x, holds c arg9 x)
          ∗ (∃ x, holds c arg10 x) ∗ (∃ x, holds c arg11 x)) -∗ Q ⟨⟩))
    ⊢ wp Idealize.ShloMosaic.frame (wpE (defs₀ (F := F)) Variants.none (c : Thread nD τ) none) Set.univ
        (cc0__ssd_kernel i arg1 harg1 arg2 harg2 arg3 harg3 arg4 harg4 arg5 harg5 arg6 harg6 arg7 harg7 arg8 harg8 arg9 harg9
          arg10 harg10 arg11 harg11) Q := by
  unfold holds owns
  iintro ⟨⟨%f1, %h1, H1⟩, ⟨%f2, %h2, H2⟩, ⟨%f3, %h3, H3⟩, ⟨%d4, %f4, %h4, H4⟩, ⟨%d5, %f5, %h5, H5⟩, ⟨%d6, %f6, %h6, H6⟩,
    ⟨%d7, %f7, %h7, H7⟩, ⟨%d8, %f8, %h8, H8⟩, ⟨%d9, %f9, %h9, H9⟩, ⟨%d10, %f10, %h10, H10⟩, ⟨%d11, %f11, %h11, H11⟩, Hk⟩
  subst h1 h2 h3
  sl_exec
  have e2 := View.readAt_full arg2.view f2 inb_S1x8x8832_S1x8x8832_0_0_0
  have e3 := View.readAt_full arg3.view f3 inb_S8x8832_S8x8832_0_0
  sl_for (tripInv c arg5 arg6 arg7 arg8 arg9 arg10 arg11
      (boxes (arg2.view.readAt (Elt F) (Rect.unit (s := S1x8x8832) ![0, 0, 0] S1x8x8832.size inb_S1x8x8832_S1x8x8832_0_0_0).toLoadRect f2)
        (arg3.view.readAt (Elt F) (Rect.unit (s := S8x8832) ![0, 0] S8x8832.size inb_S8x8832_S8x8832_0_0).toLoadRect f3))
      (St.start (arg1.view.read (Elt F) f1))) $$ [H5 H6 H7 H8 H9 H10 H11]
  · intro k acc
    exact (trip (F := F) c i arg1 harg1 arg2 harg2 arg3 harg3 arg4 harg4 arg5 harg5 arg6 harg6 arg7 harg7 arg8 harg8 arg9 harg9
      arg10 harg10 arg11 harg11 _ k0_pay25 k0_pay25
      (St.start (arg1.view.read (Elt F) f1))).step k acc
  · unfold tripInv holds owns St.iter
    have e1 := View.readAt_full arg1.view f1 inb_S1x24x8832_S1x24x8832_0_0_0
    isplitr; · ipureintro; rfl
    isplitl [H5]
    · iexists _; isplitr; swap; (· iexact H5); ipureintro
      refine (View.read_writes_full _ _ _ _ _).trans ?_; dsimp only [St.start]; rw [← e1]; try rfl
    isplitl [H6]
    · iexists _; isplitr; swap; (· iexact H6); ipureintro
      refine (View.read_writes_full _ _ _ _ _).trans ?_; rfl
    isplitl [H7]
    · iexists _; isplitr; swap; (· iexact H7); ipureintro
      refine (View.read_writes_full _ _ _ _ _).trans ?_; rfl
    isplitl [H8]
    · iexists _; isplitr; swap; (· iexact H8); ipureintro
      refine (View.read_writes_full _ _ _ _ _).trans ?_; rfl
    isplitl [H9]
    · iexists _; isplitr; swap; (· iexact H9); ipureintro
      refine (View.read_writes_full _ _ _ _ _).trans ?_; rfl
    isplitl [H10]
    · iexists _; isplitr; swap; (· iexact H10); ipureintro
      refine (View.read_writes_full _ _ _ _ _).trans ?_; rfl
    iexists _; isplitr; swap; (· iexact H11); ipureintro
    refine (View.read_writes_full _ _ _ _ _).trans ?_; rfl
  iintro %acc HI
  unfold tripInv holds owns
  icases HI with ⟨-, ⟨%g5, %i5, H5⟩, ⟨%g6, %i6, H6⟩, ⟨%g7, %i7, H7⟩, ⟨%g8, %i8, H8⟩, ⟨%g9, %i9, H9⟩, ⟨%g10, %i10, H10⟩, ⟨%g11, %i11, H11⟩⟩
  sl_exec
  sl_step
  iapply Hk
  rw [e2, e3] at i6 i7 i8 i9 i11
  have j6 : (St.final (arg1.view.read (Elt F) f1) (arg2.view.read (Elt F) f2) (arg3.view.read (Elt F) f3)).x1 = _ :=
    i6.symm.trans (View.readAt_full arg6.view g6 inb_S24x256_S24x256_0_0).symm
  have j7 : (St.final (arg1.view.read (Elt F) f1) (arg2.view.read (Elt F) f2) (arg3.view.read (Elt F) f3)).y1 = _ :=
    i7.symm.trans (View.readAt_full arg7.view g7 inb_S24x256_S24x256_0_0).symm
  have j8 : (St.final (arg1.view.read (Elt F) f1) (arg2.view.read (Elt F) f2) (arg3.view.read (Elt F) f3)).x2 = _ :=
    i8.symm.trans (View.readAt_full arg8.view g8 inb_S24x256_S24x256_0_0).symm
  have j9 : (St.final (arg1.view.read (Elt F) f1) (arg2.view.read (Elt F) f2) (arg3.view.read (Elt F) f3)).y2 = _ :=
    i9.symm.trans (View.readAt_full arg9.view g9 inb_S24x256_S24x256_0_0).symm
  have j11 : (St.final (arg1.view.read (Elt F) f1) (arg2.view.read (Elt F) f2) (arg3.view.read (Elt F) f3)).va = _ :=
    i11.symm.trans (View.readAt_full arg11.view g11 inb_S24x256_S24x256_0_0).symm
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    refine Eq.trans (congrArg (fun L => arg4.view.read (Elt F) (arg4.view.writes (Elt F) f4 L)) ?_)
      (View.read_writes_eq_canon _ _ _ (planes_cover _))
    unfold planes; rw [j6, j7, j8, j9, j11]; rfl
  isplitl [H5]; · iexists _; iexists _; isplitr; swap; (· iexact H5); ipureintro; rfl
  isplitl [H6]; · iexists _; iexists _; isplitr; swap; (· iexact H6); ipureintro; rfl
  isplitl [H7]; · iexists _; iexists _; isplitr; swap; (· iexact H7); ipureintro; rfl
  isplitl [H8]; · iexists _; iexists _; isplitr; swap; (· iexact H8); ipureintro; rfl
  isplitl [H9]; · iexists _; iexists _; isplitr; swap; (· iexact H9); ipureintro; rfl
  isplitl [H10]; · iexists _; iexists _; isplitr; swap; (· iexact H10); ipureintro; rfl
  iexists _; iexists _; isplitr; swap; (· iexact H11); ipureintro; rfl

end Cert.Proof.KernelIdeal

end
-- ==== Proof.KernelIdealRun.lean ====
/-
  The program's run. The pipeline's proof data hold the operand blocks in place and `outBlock` of them in the result's
  block (`dats`); the scratch buffers are held at anything between two grid points. `run_main`: @main terminates, every
  array of the pipeline is what the data compute, every other buffer is what the host lines leave, every counter is zero.
-/
module

public import proofs.«01_k».proof.Proof.KernelIdealBody

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

/-- The windows conjoined one by one. -/
theorem bigSep_W (Φ : Fin cfg0.W → sProp 𝕄) : bigSep Finset.univ Φ = iprop(Φ 0 ∗ Φ 1 ∗ Φ 2 ∗ Φ 3) := by
  rw [show (Finset.univ : Finset (Fin cfg0.W)) = insert 0 (insert 1 (insert 2 {3})) from by decide,
    bigSep_insert (by decide), bigSep_insert (by decide), bigSep_insert (by decide), bigSep_singleton]
  rfl

/-- The scoped buffers the pipeline does not stage: the seven scratch buffers, held at anything. -/
theorem scopedRest_eq (c : Dev nD) : (Pipeline.scopedRest (Ix := Unit) (Name := ℕ) (U := UR sig nD τ) (Lvl := ℕ) (Val := Elt F) spec0 c : sProp 𝕄)
    = iprop((∃ x, holds c (Memref.whole cc0_scratch0) x) ∗ (∃ x, holds c (Memref.whole cc0_scratch1) x)
        ∗ (∃ x, holds c (Memref.whole cc0_scratch2) x) ∗ (∃ x, holds c (Memref.whole cc0_scratch3) x)
        ∗ (∃ x, holds c (Memref.whole cc0_scratch4) x) ∗ (∃ x, holds c (Memref.whole cc0_scratch5) x)
        ∗ (∃ x, holds c (Memref.whole cc0_scratch6) x)) := by
  unfold Pipeline.scopedRest
  rw [show (Finset.univ.filter fun b : Ref sig .tc => b.isScoped) \ Finset.univ.image (Pipeline.stageRef spec0)
      = {cc0_scratch0, cc0_scratch1, cc0_scratch2, cc0_scratch3, cc0_scratch4, cc0_scratch5, cc0_scratch6} from by decide,
    bigSep_insert (by decide), bigSep_insert (by decide), bigSep_insert (by decide), bigSep_insert (by decide), bigSep_insert (by decide),
    bigSep_insert (by decide), bigSep_singleton]
  simp only [holds, owns_whole]; try rfl

attribute [local irreducible] outBlock iblk in
set_option maxHeartbeats 2000000 in
/-- The body's obligation at a grid point: the staging buffers and the scratch taken apart, `body_run` at the operand
    blocks, its result put together again. -/
theorem body_obligation (c : Dev nD) : BodyObligation (dats (F := F) m 0 c) (defs₀ (F := F)) Variants.none () Set.univ := fun t => by
  rw [bigSep_W, bigSep_W]
  rw [show (dats (F := F) m 0 c).Φ t.castSucc = Pipeline.ΦA spec0 c from rfl, show (dats (F := F) m 0 c).Φ t.succ = Pipeline.ΦA spec0 c from rfl,
    show (dats (F := F) m 0 c).owesAt () t.succ = (dats (F := F) m 0 c).owesAt () t.castSucc from rfl]
  unfold Pipeline.ΦA; rw [scopedRest_eq]
  iintro ⟨⟨⟨S0, S1, S2, S3, S4, S5, S6⟩, Hg⟩, Howes, ⟨%d0, H0⟩, ⟨%d1, H1⟩, ⟨%d2, H2⟩, ⟨%d3, H3⟩⟩
  rw [before0_0_of m (dats m 0 c) rfl (fun _ => rfl) t d0, before0_1_of m (dats m 0 c) rfl (fun _ => rfl) t d1,
    before0_2_of m (dats m 0 c) rfl (fun _ => rfl) t d2]
  iapply (body_run (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (iblk m c 0 t) (iblk m c 1 t) (iblk m c 2 t))
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, S0, S1, S2, S3, S4, S5, S6⟩
  isplitl [S0 S1 S2 S3 S4 S5 S6 Hg]
  · isplitr [Hg]
    · isplitl [S0]; · iexact S0
      isplitl [S1]; · iexact S1
      isplitl [S2]; · iexact S2
      isplitl [S3]; · iexact S3
      isplitl [S4]; · iexact S4
      isplitl [S5]; · iexact S5
      iexact S6
    · iexact Hg
  isplitl [Howes]; · iexact Howes
  isplitl [H0]; · iexact H0
  isplitl [H1]; · iexact H1
  isplitl [H2]; · iexact H2
  iexact H3

set_option backward.isDefEq.respectTransparency.types false in
/-- The run: at the compiled mesh, from any memory whose counters are zero, every weakly fair execution of @main
    terminates in the pipeline's post, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl) (Q' := _) (hQ' := fun _ h => h)

/-- What the run leaves in the arguments: no host line and no window writes one. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩

end Cert.Proof.KernelIdeal

end
-- ==== Proof.Picks.lean ====
/-
  A sorted order and a repeated selection of the largest, as plain facts about functions on finite sets.

  `order key` is the stable sorting permutation of a key, largest first. It is a bijection that puts position `i` before
  position `j` exactly where `i`'s key is the larger, or the two are equal and `i < j`; position `r` of it has `r` others
  before it. `picks_agree` compares it with taking the first largest score over and over, each score taken overwritten by
  a mark: down to a threshold above the mark the two name the same positions.
-/
module

public import Idealize.ShloMosaic.Lib.SortFacts
public import Idealize.ShloMosaic.Lib.SortPrefix
public import Mathlib.Data.EReal.Basic

@[expose] public section

namespace Cert.Proof.Picks

open Idealize.ShloMosaic

section Order

variable {n : ℕ} {α : Type} [LinearOrder α] (key : Fin n → α)

/-- `i` sorts before `j` by the key alone. -/
abbrev above (i j : Fin n) : Bool := decide (key j < key i)

/-- `i` sorts before `j` by the key, then by position. -/
abbrev ahead (i j : Fin n) : Bool := decide (key j < key i) || (decide (key i = key j) && decide (i < j))

/-- The stable sorting permutation, largest key first. -/
def order : Fin n → Fin n := sortedFrom (above key)

theorem ahead_total : StrictTotalBefore (ahead key) :=
  StrictTotalBefore.of_key_then_position (fun a b : α => decide (b < a)) key (fun a => by simp)
    (fun a b c h h' => by simp only [decide_eq_true_eq] at *; exact lt_trans h' h)
    (fun a b => by simp only [decide_eq_true_eq]; rcases lt_trichotomy a b with h | h | h <;> simp [h])

/-- Sorting a list of ascending positions by the key alone already breaks ties by position. -/
theorem stableSort_ascending (l : List (Fin n)) (hl : l.Pairwise (· < ·)) :
    stableSort (above key) l = stableSort (ahead key) l := by
  induction l with
  | nil => rfl
  | cons a l ih =>
    rw [List.pairwise_cons] at hl
    unfold stableSort
    rw [ih hl.2]
    refine insertBefore_congr _ _ a _ fun b hb => ?_
    have h : a < b := hl.1 b ((perm_stableSort _ l).mem_iff.mp hb)
    simp [above, ahead, not_lt.mpr h.le]

theorem order_eq : order key = sortedFrom (ahead key) := by
  have h : sortPositions n (above key) = sortPositions n (ahead key) :=
    stableSort_ascending key _ (List.pairwise_lt_finRange n)
  funext k
  unfold order sortedFrom
  rw [List.get_of_eq h]
  rfl

theorem order_injective : Function.Injective (order key) := sortedFrom_injective _
theorem order_surjective : Function.Surjective (order key) := sortedFrom_surjective _

theorem order_ahead {i j : Fin n} (h : i < j) : ahead key (order key i) (order key j) = true := by
  have hT := ahead_total key
  have hn := sortedFrom_noInversion (ahead key) (ahead key) (fun a b => hT.asymm a b) (fun _ _ h => h)
    (fun a b c => hT.negTrans a b c) i j h
  rw [← order_eq] at hn
  rcases hT.total (order key i) (order key j) (fun e => h.ne (order_injective key e)) with h' | h'
  · exact h'
  · rw [hn] at h'; cases h'

/-- The order's keys descend. -/
theorem order_le {i j : Fin n} (h : i ≤ j) : key (order key j) ≤ key (order key i) := by
  rcases h.eq_or_lt with rfl | h
  · exact le_rfl
  · have := order_ahead key h
    simp only [ahead, Bool.or_eq_true, decide_eq_true_eq, Bool.and_eq_true] at this
    rcases this with h | h
    · exact h.le
    · exact h.1.ge

theorem order_ahead_iff (i j : Fin n) : ahead key (order key i) (order key j) = true ↔ i < j := by
  refine ⟨fun h => ?_, order_ahead key⟩
  rcases lt_trichotomy i j with h' | h' | h'
  · exact h'
  · rw [h', (ahead_total key).irrefl] at h; cases h
  · rw [(ahead_total key).asymm _ _ (order_ahead key h')] at h; cases h

/-- The position at place `r` has `r` positions ahead of it. -/
theorem card_ahead (r : Fin n) : (Finset.univ.filter fun i => ahead key i (order key r) = true).card = r.val := by
  have h : (Finset.univ.filter fun i => ahead key i (order key r) = true)
      = (Finset.Iio r).image (order key) := by
    ext i
    obtain ⟨q, rfl⟩ := order_surjective key i
    simp only [Finset.mem_filter, Finset.mem_univ, true_and, order_ahead_iff, Finset.mem_image, Finset.mem_Iio]
    exact ⟨fun h => ⟨q, h, rfl⟩, fun ⟨q', h, e⟩ => order_injective key e ▸ h⟩
  rw [h, Finset.card_image_of_injective _ (order_injective key), Fin.card_Iio]

end Order

/-! ## Sorting a mark: the marked positions come first, in their order -/

section Marked

variable {n : ℕ} (keep : Fin n → Bool)

/-- How many marked positions are below `k`. -/
def before (k : ℕ) : ℕ := (Finset.univ.filter fun i : Fin n => i.val < k ∧ keep i = true).card

theorem before_zero : before keep 0 = 0 := by simp [before]

theorem before_succ (k : Fin n) : before keep (k.val + 1) = before keep k.val + if keep k = true then 1 else 0 := by
  unfold before
  split
  · rename_i h
    rw [← Finset.card_insert_of_notMem (a := k) (by simp)]
    congr 1
    ext i
    simp only [Finset.mem_filter, Finset.mem_univ, true_and, Finset.mem_insert, Fin.ext_iff, Nat.lt_succ_iff_lt_or_eq]
    constructor
    · rintro ⟨h1 | h1, h2⟩
      · exact Or.inr ⟨h1, h2⟩
      · exact Or.inl h1
    · rintro (h1 | ⟨h1, h2⟩)
      · exact ⟨Or.inr h1, (Fin.ext h1 : i = k) ▸ h⟩
      · exact ⟨Or.inl h1, h2⟩
  · rename_i h
    refine (congrArg Finset.card (Finset.ext fun i => ?_)).trans (Nat.add_zero _).symm
    simp only [Finset.mem_filter, Finset.mem_univ, true_and, Nat.lt_succ_iff_lt_or_eq]
    constructor
    · rintro ⟨h1 | h1, h2⟩
      · exact ⟨h1, h2⟩
      · exact absurd ((Fin.ext h1 : i = k) ▸ h2) h
    · rintro ⟨h1, h2⟩
      exact ⟨Or.inl h1, h2⟩

theorem before_mono {j k : ℕ} (h : j ≤ k) : before keep j ≤ before keep k :=
  Finset.card_le_card fun i hi => by
    simp only [Finset.mem_filter, Finset.mem_univ, true_and] at hi ⊢
    exact ⟨hi.1.trans_le h, hi.2⟩

theorem before_le (k : ℕ) (hk : k ≤ n) : before keep k ≤ k := by
  induction k with
  | zero => simp [before_zero]
  | succ k ih =>
    have := before_succ keep ⟨k, hk⟩
    dsimp only at this
    have h := ih (by omega)
    split at this <;> omega

/-- A place of the order holding a marked position is that position's number among the marked. -/
theorem place_of_marked (r : Fin n) (h : keep (order keep r) = true) : r.val = before keep (order keep r).val := by
  rw [← card_ahead keep r]
  refine congrArg Finset.card (Finset.ext fun i => ?_)
  simp only [ahead, Finset.mem_filter, Finset.mem_univ, true_and, h, Bool.or_eq_true, decide_eq_true_eq,
    Bool.and_eq_true]
  have : ¬ (true < keep i) := by cases keep i <;> decide
  simp [this, and_comm]

/-- A place of the order holding an unmarked position is past all the marked. -/
theorem place_of_unmarked (r : Fin n) (h : keep (order keep r) = false) : before keep n ≤ r.val := by
  rw [← card_ahead keep r]
  refine Finset.card_le_card fun i hi => ?_
  simp only [ahead, Finset.mem_filter, Finset.mem_univ, true_and, h, Bool.or_eq_true, decide_eq_true_eq,
    Bool.and_eq_true] at hi ⊢
  exact Or.inl (by rw [hi.2]; decide)

end Marked

/-! ## Taking the first largest, over and over -/

section Take

/-- `a` is the first of the largest of `s`. -/
structure FirstMax {M : ℕ} (s : Fin M → EReal) (a : Fin M) : Prop where
  le : ∀ l, s l ≤ s a
  first : ∀ l, s l = s a → a ≤ l

theorem FirstMax.unique {M : ℕ} {s : Fin M → EReal} {a b : Fin M} (ha : FirstMax s a) (hb : FirstMax s b) : a = b := by
  have e : s a = s b := le_antisymm (hb.le a) (ha.le b)
  exact le_antisymm (ha.first b e.symm) (hb.first a e)

variable {N M K : ℕ} (hNM : N ≤ M) (hKN : K ≤ N) (θ mark : EReal) (hθ : 0 ≤ θ) (hmark : mark ≤ θ)
  (p : Fin N → EReal) (s : ℕ → Fin M → EReal) (a : ℕ → Fin M)
  (h0 : ∀ l : Fin M, s 0 l = if h : l.val < N then p ⟨l.val, h⟩ else 0)
  (hs : ∀ k < K, ∀ l, s (k + 1) l = if l = a k then mark else s k l)
  (ha : ∀ k < K, FirstMax (s k) (a k))

include hNM hKN hθ hmark h0 hs ha in
/-- While every score taken is over the threshold, the scores are the first ones with the first `k` of the order marked;
    once one is not, none is over it. -/
theorem scores_before (k : ℕ) (hk : k ≤ K) :
    ((∀ j : Fin N, j.val < k → θ < p (order p j)) ∧
        ∀ l, s k l = if ∃ j : Fin N, j.val < k ∧ (order p j).val = l.val then mark else s 0 l)
      ∨ ((∃ j : Fin N, j.val < k ∧ ¬ θ < p (order p j)) ∧ ∀ l, s k l ≤ θ) := by
  induction k with
  | zero => exact Or.inl ⟨fun j h => absurd h (Nat.not_lt_zero _), fun l => by simp⟩
  | succ k ih =>
    have hkN : k < N := by omega
    rcases ih (by omega) with ⟨hA, hA'⟩ | ⟨⟨j, hj, hB⟩, hB'⟩
    · have hle : ∀ l : Fin M, (¬ ∃ j : Fin N, j.val < k ∧ (order p j).val = l.val) →
          s 0 l ≤ θ ∨ (∃ hl : l.val < N, s 0 l = p ⟨l.val, hl⟩ ∧ ∃ q : Fin N, k ≤ q.val ∧ order p q = ⟨l.val, hl⟩) := by
        intro l hl
        rw [h0]
        by_cases h : l.val < N
        · rw [dif_pos h]
          obtain ⟨q, hq⟩ := order_surjective p ⟨l.val, h⟩
          refine Or.inr ⟨h, rfl, q, ?_, hq⟩
          by_contra hlt
          exact hl ⟨q, by omega, by rw [hq]⟩
        · rw [dif_neg h]; exact Or.inl hθ
      by_cases hv : θ < p (order p ⟨k, hkN⟩)
      · refine Or.inl ⟨fun j hj => ?_, fun l => ?_⟩
        · rcases Nat.lt_succ_iff_lt_or_eq.mp hj with h | h
          · exact hA j h
          · have : j = ⟨k, hkN⟩ := Fin.ext h
            exact this ▸ hv
        · have hval : s k ⟨(order p ⟨k, hkN⟩).val, by omega⟩ = p (order p ⟨k, hkN⟩) := by
            rw [hA', if_neg, h0, dif_pos (order p ⟨k, hkN⟩).isLt]
            rintro ⟨j, hj, e⟩
            have := order_injective p (Fin.ext e)
            rw [this] at hj
            exact absurd hj (lt_irrefl k)
          have hmax : FirstMax (s k) ⟨(order p ⟨k, hkN⟩).val, by omega⟩ := by
            constructor
            · intro l
              rw [hval, hA']
              split
              · exact hmark.trans hv.le
              · rename_i hl
                rcases hle l hl with h | ⟨h, e, q, hq, eq⟩
                · exact h.trans hv.le
                · rw [e, ← eq]; exact order_le p hq
            · intro l
              rw [hval, hA']
              split
              · intro e; rw [← e] at hv; exact absurd hv (not_lt.mpr hmark)
              · rename_i hl
                rcases hle l hl with h | ⟨h, e, q, hq, eq⟩
                · intro e; rw [e] at h; exact absurd hv (not_lt.mpr h)
                · rw [e, ← eq]
                  intro e'
                  rcases eq_or_lt_of_le (show (⟨k, hkN⟩ : Fin N) ≤ q from hq) with h' | h'
                  · rw [← h'] at eq; exact (congrArg Fin.val eq).le
                  · have := order_ahead p h'
                    rw [eq] at this e'
                    simp only [ahead, e', lt_irrefl, decide_false, Bool.false_or, decide_true, Bool.true_and,
                      decide_eq_true_eq] at this
                    exact le_of_lt this
          have hak := (ha k (by omega)).unique hmax
          rw [hs k (by omega), hA', hak]
          by_cases hl : l.val = (order p ⟨k, hkN⟩).val
          · rw [if_pos (Fin.ext hl), if_pos ⟨⟨k, hkN⟩, Nat.lt_succ_self k, hl.symm⟩]
          · rw [if_neg (fun e => hl (congrArg Fin.val e))]
            congr 1
            refine propext ⟨fun ⟨j, h, e⟩ => ⟨j, by omega, e⟩, fun ⟨j, h, e⟩ => ⟨j, ?_, e⟩⟩
            rcases Nat.lt_succ_iff_lt_or_eq.mp h with h | h
            · exact h
            · have : j = ⟨k, hkN⟩ := Fin.ext h
              exact absurd (this ▸ e).symm hl
      · refine Or.inr ⟨⟨⟨k, hkN⟩, Nat.lt_succ_self k, hv⟩, fun l => ?_⟩
        rw [hs k (by omega)]
        split
        · exact hmark
        · rw [hA']
          split
          · exact hmark
          · rename_i hl
            rcases hle l hl with h | ⟨h, e, q, hq, eq⟩
            · exact h
            · rw [e, ← eq]
              exact (order_le p (show (⟨k, hkN⟩ : Fin N) ≤ q from hq)).trans (not_lt.mp hv)
    · refine Or.inr ⟨⟨j, by omega, hB⟩, fun l => ?_⟩
      rw [hs k (by omega)]
      split
      · exact hmark
      · exact hB' l

include hNM hKN hθ hmark h0 hs ha in
/-- The `k`-th score taken is over the threshold exactly where the `k`-th of the order is, and then they are the same. -/
theorem picks_agree (k : ℕ) (hk : k < K) :
    (θ < s k (a k) ↔ θ < p (order p ⟨k, hk.trans_le hKN⟩)) ∧
      (θ < p (order p ⟨k, hk.trans_le hKN⟩) →
        (a k).val = (order p ⟨k, hk.trans_le hKN⟩).val ∧ s k (a k) = p (order p ⟨k, hk.trans_le hKN⟩)) := by
  have hkN := hk.trans_le hKN
  have hpos : θ < p (order p ⟨k, hkN⟩) →
      (a k).val = (order p ⟨k, hkN⟩).val ∧ s k (a k) = p (order p ⟨k, hkN⟩) := by
    intro hv
    have hall : ∀ j : Fin N, j.val ≤ k → θ < p (order p j) := fun j hj =>
      hv.trans_le (order_le p (show j ≤ ⟨k, hkN⟩ from hj))
    have hA := scores_before hNM hKN θ mark hθ hmark p s a h0 hs ha k hk.le
    have hA1 := scores_before hNM hKN θ mark hθ hmark p s a h0 hs ha (k + 1) hk
    rcases hA with ⟨_, hA⟩ | ⟨⟨j, hj, h⟩, _⟩
    swap
    · exact absurd (hall j hj.le) h
    rcases hA1 with ⟨_, hA1⟩ | ⟨⟨j, hj, h⟩, _⟩
    swap
    · exact absurd (hall j (by omega)) h
    have hval : s k ⟨(order p ⟨k, hkN⟩).val, by omega⟩ = p (order p ⟨k, hkN⟩) := by
      rw [hA, if_neg, h0, dif_pos (order p ⟨k, hkN⟩).isLt]
      rintro ⟨j, hj, e⟩
      have := order_injective p (Fin.ext e)
      rw [this] at hj
      exact absurd hj (lt_irrefl k)
    have hne : (a k).val = (order p ⟨k, hkN⟩).val := by
      by_contra hne
      have h1 := hA1 ⟨(order p ⟨k, hkN⟩).val, by omega⟩
      rw [if_pos ⟨⟨k, hkN⟩, Nat.lt_succ_self k, rfl⟩, hs k hk, if_neg (fun e => hne (congrArg Fin.val e).symm), hval] at h1
      exact absurd hv (not_lt.mpr (h1 ▸ hmark))
    refine ⟨hne, ?_⟩
    rw [← hval]
    exact congrArg (s k) (Fin.ext hne)
  refine ⟨⟨fun h => ?_, fun h => (hpos h).2 ▸ h⟩, hpos⟩
  by_contra hv
  rcases scores_before hNM hKN θ mark hθ hmark p s a h0 hs ha (k + 1) hk with ⟨hA, _⟩ | ⟨_, hB⟩
  · exact hv (hA ⟨k, hkN⟩ (Nat.lt_succ_self k))
  rcases scores_before hNM hKN θ mark hθ hmark p s a h0 hs ha k hk.le with ⟨hA, hA'⟩ | ⟨_, hB'⟩
  · rw [hA'] at h
    split at h
    · exact absurd h (not_lt.mpr hmark)
    · rename_i hl
      rw [h0] at h
      split at h
      · rename_i hN
        obtain ⟨q, hq⟩ := order_surjective p ⟨(a k).val, hN⟩
        rw [← hq] at h
        have hq' : k ≤ q.val := by
          by_contra hlt
          exact hl ⟨q, by omega, by rw [hq]⟩
        exact hv (h.trans_le (order_le p (show (⟨k, hkN⟩ : Fin N) ≤ q from hq')))
      · exact absurd h (not_lt.mpr hθ)
  · exact absurd h (not_lt.mpr (hB' _))

end Take

/-! ## Suppression: keeping a candidate no earlier kept one overlaps -/

section Suppress

variable {n : ℕ} {γ : Type}

/-- A list of slots filled in order with the kept candidates, `cnt k` of them before trip `k`. -/
structure Filled (keep : Fin n → Bool) (w : Fin n → γ) (z : γ) (k : ℕ) (T : ℕ → γ) : Prop where
  kept : ∀ j : Fin n, j.val < k → keep j = true → T (before keep j.val) = w j
  rest : ∀ r, before keep k ≤ r → T r = z

variable {keep : Fin n → Bool} {w : Fin n → γ} {z : γ}

theorem Filled.start (T : ℕ → γ) (h : ∀ r, T r = z) : Filled keep w z 0 T :=
  ⟨fun j h => absurd h (Nat.not_lt_zero _), fun r _ => h r⟩

theorem Filled.next {k : Fin n} {T T' : ℕ → γ} (h : Filled keep w z k.val T)
    (hT : ∀ r, T' r = if r = before keep k.val ∧ keep k = true then w k else T r) : Filled keep w z (k.val + 1) T' := by
  have hlt : ∀ j : Fin n, j.val < k.val → keep j = true → before keep j.val < before keep k.val := fun j hj hk => by
    have h1 := before_succ keep j
    rw [if_pos hk] at h1
    have h2 := before_mono keep (show j.val + 1 ≤ k.val from hj)
    omega
  constructor
  · intro j hj hkeep
    rcases Nat.lt_succ_iff_lt_or_eq.mp hj with hj | hj
    · rw [hT, if_neg (fun e => (hlt j hj hkeep).ne e.1)]
      exact h.kept j hj hkeep
    · have e : j = k := Fin.ext hj
      subst e
      rw [hT, if_pos ⟨rfl, hkeep⟩]
  · intro r hr
    have hb := before_succ keep k
    rw [hT, if_neg]
    · exact h.rest r (by omega)
    · rintro ⟨e, hk⟩
      rw [if_pos hk] at hb
      omega

/-- A slot below the count is a kept candidate's. -/
theorem exists_slot (k : ℕ) (r : ℕ) (hk : k ≤ n) (hr : r < before keep k) :
    ∃ j : Fin n, j.val < k ∧ keep j = true ∧ before keep j.val = r := by
  induction k with
  | zero => rw [before_zero] at hr; exact absurd hr (Nat.not_lt_zero _)
  | succ k ih =>
    have hb := before_succ keep ⟨k, hk⟩
    dsimp only at hb
    by_cases h : r < before keep k
    · obtain ⟨j, hj, h⟩ := ih (by omega) h
      exact ⟨j, by omega, h⟩
    · split at hb
      · rename_i hkeep
        exact ⟨⟨k, hk⟩, Nat.lt_succ_self k, hkeep, by dsimp only; omega⟩
      · omega

theorem Filled.exists_iff {k : ℕ} {T : ℕ → γ} (h : Filled keep w z k T) (hk : k ≤ n) (P : γ → Prop) :
    (∃ r, r < before keep k ∧ P (T r)) ↔ ∃ j : Fin n, j.val < k ∧ keep j = true ∧ P (w j) := by
  constructor
  · rintro ⟨r, hr, hP⟩
    obtain ⟨j, hj, hkeep, e⟩ := exists_slot k r hk hr
    exact ⟨j, hj, hkeep, by rw [← h.kept j hj hkeep, e]; exact hP⟩
  · rintro ⟨j, hj, hkeep, hP⟩
    refine ⟨before keep j.val, ?_, by rw [h.kept j hj hkeep]; exact hP⟩
    have h1 := before_succ keep j
    rw [if_pos hkeep] at h1
    have h2 := before_mono keep (show j.val + 1 ≤ k from hj)
    omega

/-- After the last trip slot `r` holds what place `r` of the sort of the keeps names, nothing where it is not kept. -/
theorem Filled.last {T : ℕ → γ} (h : Filled keep w z n T) (r : Fin n) :
    T r.val = if keep (order keep r) = true then w (order keep r) else z := by
  split
  · rename_i hk
    rw [place_of_marked keep r hk]
    exact h.kept _ (order keep r).isLt hk
  · rename_i hk
    exact h.rest _ (place_of_unmarked keep r (by simpa using hk))

/-- The one rule by which candidates are kept determines them. -/
theorem keep_unique {val val' : Fin n → Prop} {over over' : Fin n → Fin n → Prop} {keep keep' : Fin n → Bool}
    (h : ∀ k, keep k = true ↔ val k ∧ ¬ ∃ j : Fin n, j.val < k.val ∧ keep j = true ∧ over j k)
    (h' : ∀ k, keep' k = true ↔ val' k ∧ ¬ ∃ j : Fin n, j.val < k.val ∧ keep' j = true ∧ over' j k)
    (hv : ∀ k, val k ↔ val' k) (ho : ∀ j k, val j → val k → (over j k ↔ over' j k)) : keep = keep' := by
  have key : ∀ m, ∀ k : Fin n, k.val < m → keep k = keep' k := by
    intro m
    induction m with
    | zero => intro k hk; exact absurd hk (Nat.not_lt_zero _)
    | succ m ih =>
      intro k hk
      rw [Bool.eq_iff_iff, h, h', hv]
      refine and_congr_right fun hval => not_congr (exists_congr fun j => and_congr_right fun hj => ?_)
      rw [ih j (by omega)]
      refine and_congr_right fun hkeep => ho j k ?_ ((hv k).mpr hval)
      exact (hv j).mpr (((h' j).mp hkeep).1)
  exact funext fun k => key (k.val + 1) k (Nat.lt_succ_self _)

/-- A sweep that decides one candidate a step, by those kept so far, follows the rule. -/
theorem sweep {val : Fin n → Prop} {over : Fin n → Fin n → Prop} (g : ℕ → Fin n → Prop) (h0 : ∀ i, ¬ g 0 i)
    (hstep : ∀ k i, k < n → (g (k + 1) i ↔ if i.val = k then val i ∧ ¬ ∃ j, g k j ∧ over j i else g k i)) (k : Fin n) :
    g n k ↔ val k ∧ ¬ ∃ j : Fin n, j.val < k.val ∧ g n j ∧ over j k := by
  have later : ∀ m, m ≤ n → ∀ i : Fin n, m ≤ i.val → ¬ g m i := by
    intro m
    induction m with
    | zero => exact fun _ i _ => h0 i
    | succ m ih =>
      intro hm i hi
      rw [hstep m i (by omega), if_neg (by omega)]
      exact ih (by omega) i (by omega)
  have still : ∀ d m, m + d ≤ n → ∀ i : Fin n, i.val < m → (g (m + d) i ↔ g m i) := by
    intro d
    induction d with
    | zero => exact fun _ _ _ _ => Iff.rfl
    | succ d ih =>
      intro m hm i hi
      rw [← Nat.add_assoc, hstep (m + d) i (by omega), if_neg (by omega)]
      exact ih m (by omega) i hi
  have final : ∀ m, m ≤ n → ∀ i : Fin n, i.val < m → (g n i ↔ g m i) := fun m hm i hi => by
    have := still (n - m) m (by omega) i hi
    rwa [Nat.add_sub_cancel' hm] at this
  rw [final (k.val + 1) k.isLt k (Nat.lt_succ_self _), hstep k.val k k.isLt, if_pos rfl]
  refine and_congr_right fun _ => not_congr (exists_congr fun j => ?_)
  by_cases hj : j.val < k.val
  · rw [final k.val k.isLt.le j hj]; simp [hj]
  · exact ⟨fun h => absurd h.1 (later k.val k.isLt.le j (by omega)), fun h => absurd h.1 hj⟩

end Suppress

end Cert.Proof.Picks
-- ==== Proof.Scalars.lean ====
/-
  The scalars both programs compute, over the extended reals: a box with its area and score, when two boxes overlap,
  the three constants compared against, and what a running maximum or minimum of a row is.
-/
module

public import Idealize.ShloMosaic.Lib.IdealHost
public import Idealize.ShloMosaic.Lib.Pointwise
public import proofs.«01_k».proof.Proof.Picks

@[expose] public section

noncomputable section

namespace Cert.Proof.Scalars

open Idealize.ShloMosaic Cert.Proof.Picks

/-- The score a candidate must exceed. -/
abbrev θ : EReal := Ideal.ofBits .f32 0x3C23D70A#32
/-- The overlap a kept box must exceed to suppress. -/
abbrev τ : EReal := Ideal.ofBits .f32 0x3EE66666#32
/-- What a taken score is overwritten with. -/
abbrev mark : EReal := Ideal.ofBits .f32 0xBF800000#32

theorem θ_nonneg : 0 ≤ θ := by
  have h : θ = (((10737418 : ℝ) * 2 ^ (-30 : ℤ) : ℝ) : EReal) := by
    simp [θ, Ideal.ofBits, Ideal.ieee, -EReal.coe_mul]
  rw [h]
  exact EReal.coe_nonneg.mpr (by positivity)

theorem mark_le : mark ≤ θ := by
  have h : mark = ((-(1 : ℝ)) : EReal) := by
    simp [mark, Ideal.ofBits, Ideal.ieee, -EReal.coe_mul, -EReal.coe_neg]; norm_num
  rw [h]
  exact (EReal.coe_nonpos.mpr (by norm_num)).trans θ_nonneg

theorem ofBits_bot : Ideal.ofBits .f32 0xFF800000#32 = ⊥ := by simp [Ideal.ofBits, Ideal.ieee]

/-- A candidate: its corners, area and score. -/
@[ext] structure Cand where
  x1 : EReal
  y1 : EReal
  x2 : EReal
  y2 : EReal
  ar : EReal
  va : EReal

/-- No candidate: zeros. -/
def Cand.none : Cand := ⟨0, 0, 0, 0, 0, 0⟩

/-- The area the candidate `b` has in common with the kept box `k`. -/
def inter (b k : Cand) : EReal :=
  max (min b.x2 k.x2 - max b.x1 k.x1) 0 * max (min b.y2 k.y2 - max b.y1 k.y1) 0

/-- The kept box `k` suppresses the candidate `b`. -/
def over (k b : Cand) : Prop := τ < Ideal.div (inter b k) (b.ar + k.ar - inter b k)

theorem inter_comm (b k : Cand) : inter b k = inter k b := by
  unfold inter; rw [min_comm b.x2, max_comm b.x1, min_comm b.y2, max_comm b.y1]

/-- A row's softmax at an entry, over the row's largest. -/
def softmax {N : ℕ} (x : Fin N → EReal) (q : Fin N) : EReal :=
  Ideal.div (Ideal.exp (x q - Finset.univ.fold max ⊥ x)) (∑ j, Ideal.exp (x j - Finset.univ.fold max ⊥ x))

/-- A row padded with −∞. -/
def padded {N : ℕ} (x : Fin N → EReal) {M : ℕ} (j : Fin M) : EReal := if h : j.val < N then x ⟨j.val, h⟩ else ⊥

/-- Padding a row with −∞ leaves its softmax. -/
theorem softmax_padded {N M : ℕ} (x : Fin N → EReal) (q : Fin N) :
    softmax (padded x : Fin (N + M) → EReal) (q.castAdd M) = softmax x q := by
  have hl : ∀ j : Fin N, padded x (j.castAdd M) = x j := fun j => dif_pos j.isLt
  have hr : ∀ j : Fin M, padded x (j.natAdd N) = ⊥ := fun j => dif_neg (by simp)
  have hm : Finset.univ.fold max ⊥ (padded x : Fin (N + M) → EReal) = Finset.univ.fold max ⊥ x := by
    refine le_antisymm ?_ ?_
    · rw [Finset.fold_max_le]
      refine ⟨bot_le, fun j _ => ?_⟩
      unfold padded
      split
      · rw [Finset.le_fold_max]; exact Or.inr ⟨_, Finset.mem_univ _, le_rfl⟩
      · exact bot_le
    · rw [Finset.fold_max_le]
      refine ⟨bot_le, fun j _ => ?_⟩
      rw [Finset.le_fold_max, ← hl j]
      exact Or.inr ⟨_, Finset.mem_univ _, le_rfl⟩
  unfold softmax
  rw [hm, hl, Fin.sum_univ_add]
  simp only [hl, hr, EReal.bot_sub]
  rw [show Ideal.exp ⊥ = 0 from rfl]
  simp

/-- A decoded centre, along one axis. -/
def centre (l c e : EReal) : EReal := c + l * Ideal.ofBits .f32 0x3DCCCCCD#32 * e
/-- Half a decoded extent, along one axis. -/
def half (l e : EReal) : EReal := e * Ideal.exp (l * Ideal.ofBits .f32 0x3E4CCCCD#32) * Ideal.ofBits .f32 0x3F000000#32
/-- The box a prior's offsets decode to, with a score. -/
def decoded (l p : Fin 4 → EReal) (v : EReal) : Cand where
  x1 := centre (l 0) (p 0) (p 2) - half (l 2) (p 2)
  y1 := centre (l 1) (p 1) (p 3) - half (l 3) (p 3)
  x2 := centre (l 0) (p 0) (p 2) + half (l 2) (p 2)
  y2 := centre (l 1) (p 1) (p 3) + half (l 3) (p 3)
  ar := (centre (l 0) (p 0) (p 2) + half (l 2) (p 2) - (centre (l 0) (p 0) (p 2) - half (l 2) (p 2)))
    * (centre (l 1) (p 1) (p 3) + half (l 3) (p 3) - (centre (l 1) (p 1) (p 3) - half (l 3) (p 3)))
  va := v

/-- A detection's five numbers: its score and its corners. -/
def Cand.field (k : Cand) (f : Fin 5) : EReal := ![k.va, k.x1, k.y1, k.x2, k.y2] f

/-- The candidate at place `k` of the order by score. -/
def ranked (p : Fin 8732 → EReal) (box : Fin 8732 → EReal → Cand) (k : Fin 200) : Cand :=
  box (Picks.order p (k.castLE (by norm_num))) (p (Picks.order p (k.castLE (by norm_num))))

/-- The candidates a class keeps: those over the confidence threshold that no kept one before them overlaps too much. -/
def Kept (p : Fin 8732 → EReal) (box : Fin 8732 → EReal → Cand) (keep : Fin 200 → Bool) : Prop :=
  ∀ k : Fin 200, keep k = true ↔ θ < (ranked p box k).va ∧
    ¬ ∃ j : Fin 200, j.val < k.val ∧ keep j = true ∧ over (ranked p box j) (ranked p box k)

/-- A class's detections: the kept candidates first, then none. -/
def detection (p : Fin 8732 → EReal) (box : Fin 8732 → EReal → Cand) (keep : Fin 200 → Bool) (t : Fin 200) : Cand :=
  if keep (Picks.order keep t) = true then ranked p box (Picks.order keep t) else Cand.none

/-! ## One-bit words -/

theorem ofBool_eq_one (b : Bool) : (BitVec.ofBool b = 1#1) ↔ b = true := by cases b <;> decide
theorem andi_eq_one (a b : BitVec 1) : IntOp.andi a b = 1#1 ↔ a = 1#1 ∧ b = 1#1 := by revert a b; decide
theorem ori_eq_one (a b : BitVec 1) : IntOp.ori a b = 1#1 ↔ a = 1#1 ∨ b = 1#1 := by revert a b; decide
theorem xori_one (a : BitVec 1) : IntOp.xori a 1#1 = 1#1 ↔ ¬ a = 1#1 := by revert a; decide
theorem bit_eq_zero (a : BitVec 1) : a = 0#1 ↔ ¬ a = 1#1 := by revert a; decide

theorem select_eq {α : Type} (c : BitVec 1) (x y : α) : Scalar.select c x y = if c = 1#1 then x else y := by
  rcases (by revert c; decide : c = 0#1 ∨ c = 1#1) with rfl | rfl <;> rfl

/-- A row's disjunction is set exactly when an entry is. -/
theorem fold_ori {M : ℕ} (f : Fin M → BitVec 1) :
    Finset.univ.fold IntOp.ori 0#1 f = 1#1 ↔ ∃ j, f j = 1#1 := by
  have h := Finset.fold_op_rel_iff_or (op := IntOp.ori (w := 1)) (f := f) (b := 0#1) (s := Finset.univ)
    (r := fun _ y => y = 1#1) (fun {_ y z} => by revert y z; decide) (c := 1#1)
  simpa using h

theorem pos_select (c : BitVec 1) : (0 : EReal) < Scalar.select c 1 0 ↔ c = 1#1 := by
  rw [select_eq]
  split
  · rename_i h; exact ⟨fun _ => h, fun _ => zero_lt_one⟩
  · rename_i h; exact ⟨fun h' => absurd h' (lt_irrefl _), fun h' => absurd h' h⟩

/-- Small numbers compare as words as they do as numbers. -/
theorem slt_word {a b : ℕ} (ha : a < 2 ^ 31) (hb : b < 2 ^ 31) :
    (BitVec.ofNat 32 a).slt (BitVec.ofNat 32 b) = decide (a < b) := by
  rw [Bool.eq_iff_iff, BitVec.slt_iff_toInt_lt, decide_eq_true_eq,
    BitVec.toInt_eq_toNat_of_lt (by rw [BitVec.toNat_ofNat]; omega),
    BitVec.toInt_eq_toNat_of_lt (by rw [BitVec.toNat_ofNat]; omega), BitVec.toNat_ofNat, BitVec.toNat_ofNat]
  omega

theorem eq_word {a b : ℕ} (ha : a < 2 ^ 32) (hb : b < 2 ^ 32) :
    IntOp.cmpi .eq (BitVec.ofNat 32 a) (BitVec.ofNat 32 b) = 1#1 ↔ a = b := by
  unfold IntOp.cmpi
  rw [ofBool_eq_one, beq_iff_eq]
  refine ⟨fun h => ?_, fun h => h ▸ rfl⟩
  have := congrArg BitVec.toNat h
  rw [BitVec.toNat_ofNat, BitVec.toNat_ofNat] at this
  omega

/-! ## Running extremes of a row -/

theorem fold_max_bot {M : ℕ} (f : Fin M → EReal) (a : Fin M) (h : ∀ l, f l ≤ f a) :
    Finset.univ.fold max (Ideal.ofBits .f32 0xFF800000#32) f = f a := by
  rw [ofBits_bot]
  refine le_antisymm ?_ ?_
  · rw [Finset.fold_max_le]; exact ⟨bot_le, fun l _ => h l⟩
  · rw [Finset.le_fold_max]; exact Or.inr ⟨a, Finset.mem_univ _, le_rfl⟩

/-- Some entry of a row is its first largest. -/
theorem exists_firstMax {M : ℕ} (hM : 0 < M) (f : Fin M → EReal) : ∃ a, FirstMax f a := by
  obtain ⟨m, -, hm⟩ := Finset.exists_max_image Finset.univ f ⟨⟨0, hM⟩, Finset.mem_univ _⟩
  obtain ⟨a, ha, hmin⟩ := Finset.exists_min_image (Finset.univ.filter fun l => f l = f m) id ⟨m, by simp⟩
  simp only [Finset.mem_filter, Finset.mem_univ, true_and, id] at ha hmin
  exact ⟨a, fun l => ha ▸ hm l (Finset.mem_univ _), fun l h => hmin l (h.trans ha)⟩

/-- The smallest of small words, as a number. -/
theorem fold_minsi {ι : Type} [DecidableEq ι] (S : Finset ι) (g : ι → ℕ) (hg : ∀ x, g x < 2 ^ 31) :
    S.fold IntOp.minsi 2147483647#32 (fun x => BitVec.ofNat 32 (g x)) = BitVec.ofNat 32 (S.fold min 2147483647 g) := by
  induction S using Finset.induction_on with
  | empty => rfl
  | insert x S hx ih =>
    rw [Finset.fold_insert hx, Finset.fold_insert hx, ih]
    have hS : S.fold min 2147483647 g < 2 ^ 31 := by
      rw [Finset.fold_min_lt]; exact Or.inl (by norm_num)
    generalize S.fold min 2147483647 g = b at hS
    have ha := hg x
    generalize g x = a at ha
    unfold IntOp.minsi
    rw [slt_word ha hS]
    rcases lt_or_ge a b with h | h
    · rw [decide_eq_true h, if_pos rfl, min_eq_left h.le]
    · rw [decide_eq_false (not_lt.mpr h), if_neg Bool.false_ne_true, min_eq_right h]

end Cert.Proof.Scalars
-- ==== Proof.KernelIdealRow.lean ====
/-
  One trip of the kernel's loop, read at one class row over the extended reals: the candidate it takes is the first
  largest score's box, it is kept by the rule of `Scalars.over`, and it goes to the slot the count names.
-/
module

public import proofs.«01_k».proof.Proof.KernelIdealBody
public import proofs.«01_k».proof.Proof.Scalars
public import Idealize.ShloMosaic.Lib.Pointwise

@[expose] public section

set_option maxRecDepth 16384

noncomputable section

namespace Cert.Proof.KernelIdeal

open Cert.KernelIdeal Cert.KernelIdeal.Gen Cert.Proof.Picks Cert.Proof.Scalars
open Idealize.ShloMosaic Idealize.ShloMosaic.TcCoe Idealize.SL.Sem

section Taken

variable (s : Vec Ideal S24x8832 .f32) (r : Fin 24)

/-- The scores of a row. -/
abbrev scores (l : Fin 8832) : EReal := s (ix2 r l)

/-- The lane of the row's first largest score. -/
def top : Fin 8832 := (exists_firstMax (by norm_num) (scores s r)).choose

theorem top_spec : FirstMax (scores s r) (top s r) := (exists_firstMax (by norm_num) (scores s r)).choose_spec

theorem largest_at : k0_pay2 s (ix2 r 0) = s (ix2 r (top s r)) := by
  pointwise [k0_pay2]
  exact fold_max_bot (scores s r) _ (top_spec s r).le

theorem taken_at (l : Fin 8832) : k0_pay3 lanes s (ix2 r l) = 1#1 ↔ l = top s r := by
  have hm := fold_max_bot (scores s r) _ (top_spec s r).le
  pointwise [k0_pay3, k0_pay2]
  have e : (fun x : Fin 8832 => if s (ix2 r x) = Finset.fold max (Ideal.ofBits FTy.f32 0xFF800000#32)
        (fun x => s (ix2 r x)) Finset.univ then BitVec.ofNat 32 x.val else 8832#32)
      = fun x : Fin 8832 => BitVec.ofNat 32 (if s (ix2 r x) = s (ix2 r (top s r)) then x.val else 8832) := by
    funext x
    rw [show Finset.fold max (Ideal.ofBits FTy.f32 0xFF800000#32) (fun x : Fin 8832 => s (ix2 r x)) Finset.univ
      = s (ix2 r (top s r)) from hm]
    split <;> rfl
  rw [e, fold_minsi _ _ (fun x => by split <;> omega)]
  have hmin : Finset.fold min 2147483647 (fun x : Fin 8832 => if s (ix2 r x) = s (ix2 r (top s r)) then x.val else 8832)
      Finset.univ = (top s r).val := by
    refine le_antisymm ?_ ?_
    · rw [Finset.fold_min_le]
      exact Or.inr ⟨top s r, Finset.mem_univ _, by rw [if_pos rfl]⟩
    · rw [Finset.le_fold_min]
      refine ⟨by have := (top s r).isLt; omega, fun x _ => ?_⟩
      split
      · rename_i h; exact (top_spec s r).first x h
      · exact (top s r).isLt.le
  rw [hmin, eq_word (by omega) (by omega)]
  exact ⟨fun h => Fin.ext h, fun h => h ▸ rfl⟩

theorem marked_at (l : Fin 8832) : k0_pay4 lanes s (ix2 r l) = if l = top s r then mark else s (ix2 r l) := by
  pointwise [k0_pay4]
  rw [select_eq]
  simp only [taken_at]

variable (bx : FVec Ideal S8x8832 .f32)

theorem picked_at (q : Fin 8) : k0_pay5 lanes bx s (ix2 r q) = bx (ix2 q (top s r)) := by
  pointwise [k0_pay5]
  rw [Finset.sum_eq_single (top s r)]
  · rw [(taken_at s r (top s r)).mpr rfl]
    simp [FloatOps.sitofp]
  · intro l _ hl
    rw [(bit_eq_zero _).mpr (fun h => hl ((taken_at s r l).mp h))]
    simp [FloatOps.sitofp]
  · exact fun h => absurd (Finset.mem_univ _) h

end Taken

/-- The box at a lane, with a score. -/
def lane (bx : FVec Ideal S8x8832 .f32) (l : Fin 8832) (v : EReal) : Cand :=
  ⟨bx (ix2 0 l), bx (ix2 1 l), bx (ix2 2 l), bx (ix2 3 l), bx (ix2 4 l), v⟩

/-- The candidate a trip takes. -/
def St.cand (bx : FVec Ideal S8x8832 .f32) (σ : St Ideal) (r : Fin 24) : Cand :=
  lane bx (top σ.s r) (σ.s (ix2 r (top σ.s r)))

/-- What a slot holds. -/
def St.at (σ : St Ideal) (r : Fin 24) (t : Fin 256) : Cand :=
  ⟨σ.x1 (ix2 r t), σ.y1 (ix2 r t), σ.x2 (ix2 r t), σ.y2 (ix2 r t), σ.ar (ix2 r t), σ.va (ix2 r t)⟩

section Trip

variable (bx : FVec Ideal S8x8832 .f32) (σ : St Ideal) (r : Fin 24)

theorem x1_at : k0_pay6 lanes bx σ.s (ix2 r 0) = (σ.cand bx r).x1 := by
  pointwise [k0_pay6]; exact picked_at σ.s r bx 0
theorem y1_at : k0_pay7 lanes bx σ.s (ix2 r 0) = (σ.cand bx r).y1 := by
  pointwise [k0_pay7]; exact picked_at σ.s r bx 1
theorem x2_at : k0_pay8 lanes bx σ.s (ix2 r 0) = (σ.cand bx r).x2 := by
  pointwise [k0_pay8]; exact picked_at σ.s r bx 2
theorem y2_at : k0_pay9 lanes bx σ.s (ix2 r 0) = (σ.cand bx r).y2 := by
  pointwise [k0_pay9]; exact picked_at σ.s r bx 3
theorem ar_at : k0_pay10 lanes bx σ.s (ix2 r 0) = (σ.cand bx r).ar := by
  pointwise [k0_pay10]; exact picked_at σ.s r bx 4

theorem keep_at : σ.keep bx (ix2 r 0) = 1#1 ↔
    θ < (σ.cand bx r).va ∧
      ¬ ∃ t : Fin 256, IntOp.cmpi .slt (BitVec.ofNat 32 t.val) (σ.cnt (ix2 r 0)) = 1#1 ∧ over (σ.at r t) (σ.cand bx r) := by
  unfold St.keep
  have h6 := x1_at bx σ r
  have h7 := y1_at bx σ r
  have h8 := x2_at bx σ r
  have h9 := y2_at bx σ r
  have h10 := ar_at bx σ r
  have h2 := largest_at σ.s r
  pointwise [k0_pay13, k0_pay11, k0_pay12, h2, h6, h7, h8, h9, h10]
  rw [andi_eq_one, ofBool_eq_one, decide_eq_true_eq, xori_one, ofBool_eq_one, decide_eq_true_eq, Finset.lt_fold_max]
  refine and_congr Iff.rfl (not_congr ?_)
  rw [ofBits_bot]
  simp only [not_lt_bot, false_or, Finset.mem_univ, true_and]
  refine exists_congr fun t => ?_
  rw [pos_select, andi_eq_one, ofBool_eq_one, decide_eq_true_eq]
  exact Iff.rfl

theorem slots_at (t : Fin 256) : slots (ix2 r t) = BitVec.ofNat 32 t.val := by
  pointwise []

theorem both_at (v102 : IVec S24x256 32) (arg13 : IVec S24x1 32) (v138 v156 v159 : FVec Ideal S24x1 .f32)
    (v161 v164 : Vec Ideal S24x256 .f32) (v171 v173 : FVec Ideal S24x256 .f32) (t : Fin 256) :
    k0_pay14 v102 arg13 v138 v156 v159 v161 v164 v171 v173 (ix2 r t)
      = IntOp.andi (IntOp.cmpi .eq (v102 (ix2 r t)) (arg13 (ix2 r 0)))
          (k0_pay13 v102 arg13 v138 v156 v159 v161 v164 v171 v173 (ix2 r 0)) := by
  pointwise [k0_pay14]

theorem slot_at (t : Fin 256) : σ.slot bx (ix2 r t) = 1#1 ↔
    IntOp.cmpi .eq (BitVec.ofNat 32 t.val) (σ.cnt (ix2 r 0)) = 1#1 ∧ σ.keep bx (ix2 r 0) = 1#1 := by
  have h := both_at r slots σ.cnt (k0_pay2 σ.s) (k0_pay7 lanes bx σ.s) (k0_pay10 lanes bx σ.s) σ.y1 σ.ar
    (k0_pay11 lanes bx σ.s σ.x1 σ.x2) (k0_pay12 lanes bx σ.s σ.y2) t
  rw [slots_at] at h
  rw [← andi_eq_one]
  exact iff_of_eq (congrArg (fun b => b = 1#1) h)

theorem next_scores (l : Fin 8832) : (σ.next bx).s (ix2 r l) = if l = top σ.s r then mark else σ.s (ix2 r l) := by
  unfold St.next
  dsimp only
  exact marked_at σ.s r l

theorem next_at (t : Fin 256) : (σ.next bx).at r t =
    if IntOp.cmpi .eq (BitVec.ofNat 32 t.val) (σ.cnt (ix2 r 0)) = 1#1 ∧ σ.keep bx (ix2 r 0) = 1#1 then σ.cand bx r
    else σ.at r t := by
  have h6 := x1_at bx σ r
  have h7 := y1_at bx σ r
  have h8 := x2_at bx σ r
  have h9 := y2_at bx σ r
  have h10 := ar_at bx σ r
  have h2 := largest_at σ.s r
  have hs := slot_at bx σ r t
  simp only [← hs]
  unfold St.at St.next
  dsimp only
  have e1 : k0_pay16 slots σ.cnt (k0_pay2 σ.s) (k0_pay6 lanes bx σ.s) (k0_pay7 lanes bx σ.s) (k0_pay10 lanes bx σ.s) σ.x1 σ.y1 σ.ar
      (k0_pay11 lanes bx σ.s σ.x1 σ.x2) (k0_pay12 lanes bx σ.s σ.y2) (ix2 r t)
      = if σ.slot bx (ix2 r t) = 1#1 then (σ.cand bx r).x1 else σ.x1 (ix2 r t) := by
    rw [← h6, ← select_eq]; unfold St.slot; pointwise [k0_pay16]
  have e2 : k0_pay32 σ.y1 (σ.slot bx) (k0_pay17 (k0_pay7 lanes bx σ.s)) (ix2 r t)
      = if σ.slot bx (ix2 r t) = 1#1 then (σ.cand bx r).y1 else σ.y1 (ix2 r t) := by
    rw [← h7, ← select_eq]; generalize σ.slot bx = S; pointwise [k0_pay32, k0_pay17]
  have e3 : k0_pay33 (k0_pay8 lanes bx σ.s) σ.x2 (σ.slot bx) (ix2 r t)
      = if σ.slot bx (ix2 r t) = 1#1 then (σ.cand bx r).x2 else σ.x2 (ix2 r t) := by
    rw [← h8, ← select_eq]; generalize σ.slot bx = S; pointwise [k0_pay33]
  have e4 : k0_pay34 (k0_pay9 lanes bx σ.s) σ.y2 (σ.slot bx) (ix2 r t)
      = if σ.slot bx (ix2 r t) = 1#1 then (σ.cand bx r).y2 else σ.y2 (ix2 r t) := by
    rw [← h9, ← select_eq]; generalize σ.slot bx = S; pointwise [k0_pay34]
  have e5 : k0_pay35 (k0_pay10 lanes bx σ.s) σ.ar (σ.slot bx) (ix2 r t)
      = if σ.slot bx (ix2 r t) = 1#1 then (σ.cand bx r).ar else σ.ar (ix2 r t) := by
    rw [← h10, ← select_eq]; generalize σ.slot bx = S; pointwise [k0_pay35]
  have e6 : k0_pay15 slots σ.cnt (k0_pay2 σ.s) (k0_pay7 lanes bx σ.s) (k0_pay10 lanes bx σ.s) σ.y1 σ.ar
      (k0_pay11 lanes bx σ.s σ.x1 σ.x2) (k0_pay12 lanes bx σ.s σ.y2) σ.va (ix2 r t)
      = if σ.slot bx (ix2 r t) = 1#1 then (σ.cand bx r).va else σ.va (ix2 r t) := by
    rw [show (σ.cand bx r).va = σ.s (ix2 r (top σ.s r)) from rfl, ← h2, ← select_eq]; unfold St.slot; pointwise [k0_pay15]
  rw [e1, e2, e3, e4, e5, e6]
  split <;> rfl

theorem next_cnt : (σ.next bx).cnt (ix2 r 0) =
    σ.cnt (ix2 r 0) + if σ.keep bx (ix2 r 0) = 1#1 then 1#32 else 0#32 := by
  unfold St.next
  dsimp only
  generalize σ.keep bx = S
  pointwise [k0_pay36]
  rcases (by generalize S (ix2 r 0) = b; revert b; decide : S (ix2 r 0) = 0#1 ∨ S (ix2 r 0) = 1#1) with h | h <;> rw [h] <;> rfl

end Trip

end Cert.Proof.KernelIdeal
-- ==== Proof.KernelIdealLoop.lean ====
/-
  The kernel's loop at one class row over the extended reals: the candidates it takes, which of them it keeps, and what
  its slots hold after the last trip.
-/
module

public import proofs.«01_k».proof.Proof.KernelIdealRow

@[expose] public section

set_option maxRecDepth 16384

noncomputable section

namespace Cert.Proof.KernelIdeal

open Cert.KernelIdeal Cert.KernelIdeal.Gen Cert.Proof.Picks Cert.Proof.Scalars
open Idealize.ShloMosaic Idealize.ShloMosaic.TcCoe Idealize.SL.Sem

variable (bx : FVec Ideal S8x8832 .f32) (σ : St Ideal) (r : Fin 24)

/-- Whether trip `k` keeps its candidate. -/
def kept (k : Fin 200) : Bool := decide ((σ.iter bx k.val).keep bx (ix2 r 0) = 1#1)

/-- The candidate of trip `k`. -/
def taken (k : Fin 200) : Cand := (σ.iter bx k.val).cand bx r

/-- The slots before trip `k`, by number. -/
def slotsAt (k t : ℕ) : Cand := if h : t < 256 then (σ.iter bx k).at r ⟨t, h⟩ else Cand.none

variable (hat : ∀ t, σ.at r t = Cand.none) (hcnt : σ.cnt (ix2 r 0) = 0#32)

include hat hcnt in
theorem filled (k : ℕ) (hk : k ≤ 200) :
    (σ.iter bx k).cnt (ix2 r 0) = BitVec.ofNat 32 (before (kept bx σ r) k) ∧
      Filled (kept bx σ r) (taken bx σ r) Cand.none k (slotsAt bx σ r k) := by
  induction k with
  | zero =>
    refine ⟨?_, Filled.start _ fun t => ?_⟩
    · rw [before_zero]; exact hcnt
    · unfold slotsAt
      split
      · exact hat _
      · rfl
  | succ k ih =>
    obtain ⟨hc, hf⟩ := ih (by omega)
    have hb := before_succ (kept bx σ r) ⟨k, hk⟩
    have hle := before_le (kept bx σ r) k (by omega)
    have hkept : kept bx σ r ⟨k, hk⟩ = true ↔ (σ.iter bx k).keep bx (ix2 r 0) = 1#1 := by
      unfold kept; rw [decide_eq_true_eq]
    dsimp only at hb
    refine ⟨?_, hf.next (k := ⟨k, hk⟩) fun t => ?_⟩
    · rw [St.iter_succ, next_cnt, hc, hb]
      simp only [hkept]
      split
      · exact (BitVec.ofNat_add _ 1).symm
      · exact BitVec.add_zero _
    · unfold slotsAt
      dsimp only
      split
      · rename_i ht
        rw [St.iter_succ, next_at, hc]
        simp only [hkept, eq_word (show t < 2 ^ 32 by omega) (show before (kept bx σ r) k < 2 ^ 32 by omega)]
        rfl
      · rename_i ht
        rw [if_neg]
        rintro ⟨e, -⟩
        omega

include hat hcnt in
/-- The rule by which the loop keeps a candidate. -/
theorem kept_iff (k : Fin 200) : kept bx σ r k = true ↔
    θ < (taken bx σ r k).va ∧
      ¬ ∃ j : Fin 200, j.val < k.val ∧ kept bx σ r j = true ∧ over (taken bx σ r j) (taken bx σ r k) := by
  obtain ⟨hc, hf⟩ := filled bx σ r hat hcnt k.val k.isLt.le
  have hle := before_le (kept bx σ r) k.val k.isLt.le
  rw [← hf.exists_iff k.isLt.le fun b => over b (taken bx σ r k)]
  have hkept : kept bx σ r k = true ↔ (σ.iter bx k.val).keep bx (ix2 r 0) = 1#1 := by
    unfold kept; rw [decide_eq_true_eq]
  rw [hkept, keep_at, hc]
  refine and_congr Iff.rfl (not_congr ?_)
  have hlt : ∀ t : Fin 256, IntOp.cmpi .slt (BitVec.ofNat 32 t.val) (BitVec.ofNat 32 (before (kept bx σ r) k.val)) = 1#1
      ↔ t.val < before (kept bx σ r) k.val := by
    intro t
    unfold IntOp.cmpi
    rw [ofBool_eq_one]
    dsimp only
    rw [slt_word (by omega) (by omega), decide_eq_true_eq]
  simp only [hlt]
  constructor
  · rintro ⟨t, ht, ho⟩
    refine ⟨t.val, ht, ?_⟩
    unfold slotsAt
    rw [dif_pos t.isLt]
    exact ho
  · rintro ⟨t, ht, ho⟩
    have h : t < 256 := by omega
    refine ⟨⟨t, h⟩, ht, ?_⟩
    unfold slotsAt at ho
    rw [dif_pos h] at ho
    exact ho

include hat hcnt in
/-- A row of scores none of which is over the threshold keeps nothing. -/
theorem dead_row (hs : ∀ l, σ.s (ix2 r l) ≤ θ) (t : Fin 256) : (σ.iter bx 200).at r t = Cand.none := by
  have hle : ∀ k l, (σ.iter bx k).s (ix2 r l) ≤ θ := by
    intro k
    induction k with
    | zero => exact hs
    | succ k ih =>
      intro l
      rw [St.iter_succ, next_scores]
      split
      · exact mark_le
      · exact ih l
  have hk : ∀ k, kept bx σ r k = false := fun k => by
    rw [Bool.eq_false_iff]
    intro h
    exact absurd ((kept_iff bx σ r hat hcnt k).mp h).1 (not_lt.mpr (hle k.val _))
  have hf := (filled bx σ r hat hcnt 200 le_rfl).2
  have h := hf.rest t.val (by unfold before; simp [hk])
  unfold slotsAt at h
  rwa [dif_pos t.isLt] at h

section Sorted

variable (p : Fin 8732 → EReal) (box : Fin 8732 → EReal → Cand)
  (hs : ∀ l : Fin 8832, σ.s (ix2 r l) = if h : l.val < 8732 then p ⟨l.val, h⟩ else 0)
  (hbox : ∀ (l : Fin 8832) (h : l.val < 8732) (v : EReal), lane bx l v = box ⟨l.val, h⟩ v)
  (keep : Fin 200 → Bool)

variable (hbva : ∀ l v, (box l v).va = v)
  (hkeep : ∀ k : Fin 200, keep k = true ↔ θ < (ranked p box k).va ∧
    ¬ ∃ j : Fin 200, j.val < k.val ∧ keep j = true ∧ over (ranked p box j) (ranked p box k))

include hat hcnt hs hbox hbva hkeep in
/-- After the last trip slot `t` holds the candidate that place `t` of the sort of the keeps names, where it is kept. -/
theorem live_row (t : Fin 200) : (σ.iter bx 200).at r (t.castLE (by norm_num)) =
    if keep (order keep t) = true then ranked p box (order keep t) else Cand.none := by
  have hp := fun k : Fin 200 => picks_agree (N := 8732) (M := 8832) (K := 200) (by norm_num) (by norm_num) θ mark θ_nonneg
    mark_le p (fun k l => (σ.iter bx k).s (ix2 r l)) (fun k => top (σ.iter bx k).s r) hs
    (fun k _ l => by rw [St.iter_succ, next_scores]) (fun k _ => top_spec _ _) k.val k.isLt
  have hval : ∀ k, θ < (taken bx σ r k).va ↔ θ < (ranked p box k).va := fun k => by
    unfold ranked
    rw [hbva]
    exact (hp k).1
  have hcand : ∀ k, θ < (ranked p box k).va → taken bx σ r k = ranked p box k := fun k h => by
    unfold ranked at h ⊢
    rw [hbva] at h
    obtain ⟨e1, e2⟩ := (hp k).2 h
    unfold taken St.cand
    have hlt : (top (σ.iter bx k.val).s r).val < 8732 := by rw [e1]; exact Fin.isLt _
    rw [hbox _ hlt]
    exact congrArg₂ box (Fin.ext e1) e2
  have hkk : kept bx σ r = keep := keep_unique (kept_iff bx σ r hat hcnt) hkeep hval fun j k hj hk => by
    rw [hcand j ((hval j).mp hj), hcand k ((hval k).mp hk)]
  have hf := (filled bx σ r hat hcnt 200 le_rfl).2.last t
  unfold slotsAt at hf
  rw [dif_pos (by omega), hkk] at hf
  refine hf.trans ?_
  split
  · rename_i h
    exact hcand _ ((hkeep _).mp h).1
  · rfl

end Sorted

end Cert.Proof.KernelIdeal
-- ==== Proof.KernelIdealBlock.lean ====
/-
  One image of the kernel over the extended reals: the scores and boxes it starts from, and the detections its loop leaves.
-/
module

public import proofs.«01_k».proof.Proof.KernelIdealLoop
public import Idealize.ShloMosaic.Lib.Pipeline.ValueKit

@[expose] public section

set_option maxRecDepth 16384

noncomputable section

namespace Cert.Proof.KernelIdeal

open Cert.KernelIdeal Cert.KernelIdeal.Gen Cert.Proof.Picks Cert.Proof.Scalars
open Idealize.ShloMosaic Idealize.ShloMosaic.TcCoe Idealize.SL.Sem

section Start

variable (X1 : Vec Ideal S1x24x8832 .f32) (X2 : Vec Ideal S1x8x8832 .f32) (X3 : Vec Ideal S8x8832 .f32)
variable (r : Fin 24) (l : Fin 8832)

theorem start_at (t : Fin 256) : (St.start X1).at r t = Cand.none := by
  unfold St.at St.start Cand.none
  congr 1 <;> pointwise [k0_pay24, k0_pay25, k0_pay26, k0_pay27, k0_pay28, k0_pay29, k0_pay30]
theorem start_cnt : (St.start X1).cnt (ix2 r 0) = 0#32 := by
  unfold St.start
  pointwise [k0_pay31]

theorem lane_boxes (v : EReal) :
    lane (boxes X2 X3) l v = decoded (fun f => X2 (ix3 0 (f.castLE (by norm_num)) l)) (fun f => X3 (ix2 (f.castLE (by norm_num)) l)) v := by
  unfold lane decoded centre half
  congr 1 <;> pointwise [boxes, k0_pay23, k0_pay19, k0_pay20, k0_pay21, k0_pay22] <;> rfl

/-- The named filler is −∞. -/
theorem mask_bot : Named.named (F := Ideal) κ "mask" (φ := .f32) 0xCE6E6B28#32 = ⊥ := by
  show (κ "mask").getD _ = ⊥
  rw [show κ "mask" = some ⊥ from rfl]
  rfl

theorem class_slt : ∀ j : Fin 24, IntOp.cmpi .slt (BitVec.ofNat 32 j.val) 21#32 = 1#1 ↔ j.val < 21 := by decide
theorem class_sge : ∀ j : Fin 24, IntOp.cmpi .sge (BitVec.ofNat 32 j.val) 1#32 = 1#1 ↔ 1 ≤ j.val := by decide
theorem class_sle : ∀ j : Fin 24, IntOp.cmpi .sle (BitVec.ofNat 32 j.val) 20#32 = 1#1 ↔ j.val ≤ 20 := by decide
theorem lane_slt (l : Fin 8832) : IntOp.cmpi .slt (BitVec.ofNat 32 l.val) 8732#32 = 1#1 ↔ l.val < 8732 := by
  unfold IntOp.cmpi
  rw [ofBool_eq_one, show (8732#32 : BitVec 32) = BitVec.ofNat 32 8732 from rfl, slt_word (by omega) (by norm_num), decide_eq_true_eq]

theorem start_scores : (St.start X1).s (ix2 r l)
    = if l.val < 8732 ∧ 1 ≤ r.val ∧ r.val ≤ 20 then
        softmax (padded (fun j : Fin 21 => X1 (ix3 0 (j.castLE (by norm_num)) l)) : Fin 24 → EReal) r else 0 := by
  unfold St.start
  pointwise [k0_pay18]
  have hm : ∀ j : Fin 24, Scalar.select (IntOp.cmpi .slt (BitVec.ofNat 32 j.val) 21#32) (X1 (ix3 0 j l))
      (Named.named (F := Ideal) κ "mask" (φ := .f32) 3463342888#32) = padded (fun j : Fin 21 => X1 (ix3 0 (j.castLE (by norm_num)) l)) j := by
    intro j
    have hj := j.isLt
    rw [mask_bot, select_eq]
    unfold padded
    by_cases h : j.val < 21
    · rw [dif_pos h, if_pos ((class_slt j).mpr h)]
      rfl
    · rw [dif_neg h, if_neg (fun e => h ((class_slt j).mp e))]
  simp only [hm, ofBits_bot]
  rw [select_eq]
  refine if_congr ?_ rfl rfl
  rw [andi_eq_one, andi_eq_one, class_sge, class_sle, lane_slt, and_assoc]

/-- A class row holds the class's softmax of each prior, and zeros in the padding. -/
theorem start_class (c : Fin 20) : (St.start X1).s (ix2 (⟨c.val + 1, by omega⟩ : Fin 24) l)
    = if l.val < 8732 then softmax (fun j : Fin 21 => X1 (ix3 0 (j.castLE (by norm_num)) l)) c.succ else 0 := by
  rw [start_scores]
  refine if_congr ⟨fun h => h.1, fun h => ⟨h, ?_, ?_⟩⟩ ?_ rfl
  · show 1 ≤ c.val + 1; omega
  · show c.val + 1 ≤ 20; omega
  · exact softmax_padded (M := 3) _ c.succ

/-- The background row is zeros. -/
theorem start_background : (St.start X1).s (ix2 (0 : Fin 24) l) = 0 := by
  rw [start_scores]
  exact if_neg fun h => absurd h.2.1 (by decide)

end Start

section Out

variable (X1 : Vec Ideal S1x24x8832 .f32) (X2 : Vec Ideal S1x8x8832 .f32) (X3 : Vec Ideal S8x8832 .f32)
variable (r : Fin 24)

/-- The number at a plane of the block: the five of a detection, then three planes of zeros. -/
def plane (k : Cand) (f : ℕ) : EReal :=
  if f = 0 then k.va else if f = 1 then k.x1 else if f = 2 then k.y1 else if f = 3 then k.x2 else if f = 4 then k.y2 else 0

theorem plane_field (k : Cand) (f : Fin 5) : plane k f.val = k.field f := by
  fin_cases f <;> rfl

theorem out_at (y : S1x8x24x256.Idx) :
    outBlock X1 X2 X3 y = plane ((St.final X1 X2 X3).at (y 2) (y 3)) (y 1).val := by
  unfold outBlock
  generalize St.final X1 X2 X3 = σ
  unfold planes
  canon_tiles x h
  all_goals
    have hz : (x 1).val = 0 := by omega
    rw [h1, hz]
    pointwise [k0_pay1, k0_pay37, k0_pay38, k0_pay39, k0_pay40, k0_pay41, k0_pay42, k0_pay43, k0_pay44, plane, St.at]
  all_goals blk_ext

theorem final_eq : St.final X1 X2 X3 = (St.start X1).iter (boxes X2 X3) 200 := rfl

end Out

end Cert.Proof.KernelIdeal

end
-- ==== Proof.KernelIdealValue.lean ====
/-
  The result of the kernel's run over the extended reals: the arrays its blocks come from, and the detections of every image.
-/
module

public import proofs.«01_k».proof.Proof.KernelIdealRun
public import proofs.«01_k».proof.Proof.KernelIdealBlock
public import Idealize.ShloMosaic.Lib.StableHlo.RunRead

@[expose] public section

set_option maxRecDepth 16384

noncomputable section

namespace Cert.Proof.KernelIdeal

open Cert.KernelIdeal Cert.KernelIdeal.Gen Cert.Proof.Picks Cert.Proof.Scalars
open Idealize.ShloMosaic Idealize.ShloMosaic.TcCoe Idealize.SL.Sem Idealize.ShloMosaic.StableHlo

/-! ## The padded arrays -/

section Padded

/-- The entries, class by lane, padded. -/
def laneConf (x : FVec Ideal S128x8732x21 .f32) : FVec Ideal S128x24x8832 .f32 :=
  pad S128x24x8832 ![0, 0, 0] ![0, 3, 100] ![0, 0, 0] (transpose S128x21x8732 [0, 2, 1] x Facts₀.transposes_S128x8732x21_S128x21x8732_0_2_1)
    (constant S_ .f32 0xCE6E6B28#32) Facts₀.pads_S128x21x8732_S128x24x8832_000_030_01000 Facts₀.h_S_

/-- The box offsets, coordinate by lane, padded. -/
def laneLoc (x : FVec Ideal S128x8732x4 .f32) : FVec Ideal S128x8x8832 .f32 :=
  pad S128x8x8832 ![0, 0, 0] ![0, 4, 100] ![0, 0, 0] (transpose S128x4x8732 [0, 2, 1] x Facts₀.transposes_S128x8732x4_S128x4x8732_0_2_1)
    (sitofp .f32 (constantI S_ 32 0#32)) Facts₀.pads_S128x4x8732_S128x8x8832_000_040_01000 Facts₀.h_S_

/-- The priors, coordinate by lane, padded. -/
def lanePrior (x : FVec Ideal S8732x4 .f32) : FVec Ideal S8x8832 .f32 :=
  pad S8x8832 ![0, 0] ![4, 100] ![0, 0] (transpose S4x8732 [1, 0] x Facts₀.transposes_S8732x4_S4x8732_1_0)
    (sitofp .f32 (constantI S_ 32 0#32)) Facts₀.pads_S4x8732_S8x8832_040_01000 Facts₀.h_S_

theorem laneConf_at (x : FVec Ideal S128x8732x21 .f32) (b : Fin 128) (j : Fin 24) (l : Fin 8832) (hj : j.val < 21) (hl : l.val < 8732) :
    laneConf x (ix3 b j l) = x (ix3 b ⟨l.val, hl⟩ ⟨j.val, hj⟩) := by
  pointwise [laneConf, hj, hl]
theorem laneLoc_at (x : FVec Ideal S128x8732x4 .f32) (b : Fin 128) (f : Fin 8) (l : Fin 8832) (hf : f.val < 4) (hl : l.val < 8732) :
    laneLoc x (ix3 b f l) = x (ix3 b ⟨l.val, hl⟩ ⟨f.val, hf⟩) := by
  pointwise [laneLoc, hf, hl]
theorem lanePrior_at (x : FVec Ideal S8732x4 .f32) (f : Fin 8) (l : Fin 8832) (hf : f.val < 4) (hl : l.val < 8732) :
    lanePrior x (ix2 f l) = x (ix2 ⟨l.val, hl⟩ ⟨f.val, hf⟩) := by
  pointwise [lanePrior, hf, hl]

variable (V : Valuation τ sig (Elt Ideal))

theorem conf_read : after hostOps0 V (Proc.devRef .tc main_call0_v1) = laneConf (V (Proc.devRef .tc main_arg1)) := by
  after_reads_simp
  simp -implicitDefEqProofs only [TRef.ofBuf_toBuf, TRef.toBuf, TRef.ofBuf, cast_eq]
  rfl
theorem loc_read : after hostOps0 V (Proc.devRef .tc main_call0_v3) = laneLoc (V (Proc.devRef .tc main_arg0)) := by
  after_reads_simp
  simp -implicitDefEqProofs only [TRef.ofBuf_toBuf, TRef.toBuf, TRef.ofBuf, cast_eq]
  rfl
theorem prior_read : after hostOps0 V (Proc.devRef .tc main_call0_v5) = lanePrior (V (Proc.devRef .tc main_arg2)) := by
  after_reads_simp
  simp -implicitDefEqProofs only [TRef.ofBuf_toBuf, TRef.toBuf, TRef.ofBuf, cast_eq]
  rfl

/-- The five planes of the 21 classes and 200 slots, the planes last. -/
def cropped (x : FVec Ideal S128x8x24x256 .f32) : FVec Ideal S128x21x200x5 .f32 :=
  transpose S128x21x200x5 [0, 2, 3, 1] (extractStridedSlice S128x5x21x200 ![0, 0, 0, 0] x Facts₀.slices_S128x8x24x256_S128x5x21x200_0_0_0_0)
    Facts₀.transposes_S128x5x21x200_S128x21x200x5_0_2_3_1

theorem cropped_at (x : FVec Ideal S128x8x24x256 .f32) (b : Fin 128) (c : Fin 21) (t : Fin 200) (f : Fin 5) :
    cropped x (ix4 b c t f) = x (ix4 b (f.castLE (by norm_num)) (c.castLE (by norm_num)) (t.castLE (by norm_num))) := by
  pointwise [cropped]
  rfl

theorem result_read : after hostOps1 V (Proc.devRef .tc main_v0) = cropped (V (Proc.devRef .tc main_call0_v6)) := by
  after_reads_simp
  simp -implicitDefEqProofs only [TRef.ofBuf_toBuf, TRef.toBuf, TRef.ofBuf, cast_eq]
  rfl

end Padded

/-! ## The blocks of an image -/

section Blocks

variable (m : (ℓ : Loc nD τ sig) → Buf (Elt Ideal) ℓ) (d : Dev nD)

/-- An argument's contents. -/
abbrev argLoc : FVec Ideal S128x8732x4 .f32 := m ((d.tc : Thread nD τ).loc main_arg0)
abbrev argConf : FVec Ideal S128x8732x21 .f32 := m ((d.tc : Thread nD τ).loc main_arg1)
abbrev argPrior : FVec Ideal S8732x4 .f32 := m ((d.tc : Thread nD τ).loc main_arg2)

/-- The blocks of image `b`. -/
def confOf (b : Fin 128) : Vec Ideal S1x24x8832 .f32 := fun i => laneConf (argConf m d) (ix3 b (i 1) (i 2))
def locOf (b : Fin 128) : Vec Ideal S1x8x8832 .f32 := fun i => laneLoc (argLoc m d) (ix3 b (i 1) (i 2))

/-- The kernel's result array: every image's block. -/
def blocks : FVec Ideal S128x8x24x256 .f32 := fun i =>
  outBlock (confOf m d (i 0)) (locOf m d (i 0)) (lanePrior (argPrior m d)) (ix4 0 (i 1) (i 2) (i 3))

theorem idx_val : ∀ t : Fin cfg0.N, win0_0.index t = ![t.val, 0, 0] ∧ win0_1.index t = ![t.val, 0, 0] ∧ win0_2.index t = ![0, 0]
    ∧ win0_3.index t = ![t.val, 0, 0, 0] :=
  (by decide +kernel : ∀ t : Fin grid0.N, _)

/-- The image of a grid point. -/
def image (t : Fin cfg0.N) : Fin 128 := ⟨t.val, t.isLt⟩

theorem conf_block (t : Fin cfg0.N) : iblk m d 0 t = confOf m d (image t) := by
  funext x
  unfold confOf argConf
  rw [← conf_read (fun b => m (d, b))]
  blk_ext [iblk, V, idx_val t]
  rfl
theorem loc_block (t : Fin cfg0.N) : iblk m d 1 t = locOf m d (image t) := by
  funext x
  unfold locOf argLoc
  rw [← loc_read (fun b => m (d, b))]
  blk_ext [iblk, V, idx_val t]
  rfl
theorem prior_block (t : Fin cfg0.N) : iblk m d 2 t = lanePrior (argPrior m d) := by
  funext x
  unfold argPrior
  rw [← prior_read (fun b => m (d, b))]
  blk_ext [iblk, V, idx_val t]

theorem point_leaves (t : Fin cfg0.N) :
    (dats m 0 d).after 3 t = outBlock (confOf m d (image t)) (locOf m d (image t)) (lanePrior (argPrior m d)) := by
  rw [← conf_block, ← loc_block, ← prior_block m d t]
  rfl

theorem blocks_at (t : Fin cfg0.N) (i : S128x8x24x256.Idx) (y : S1x8x24x256.Idx) (h0 : (i 0).val = t.val) (h1 : (i 1).val = (y 1).val)
    (h2 : (i 2).val = (y 2).val) (h3 : (i 3).val = (y 3).val) :
    outBlock (confOf m d (image t)) (locOf m d (image t)) (lanePrior (argPrior m d)) y = blocks m d i := by
  unfold blocks
  rw [show i 0 = image t from Fin.ext h0]
  refine congrArg _ ?_
  blk_ext

theorem blocks_final : (dats m 0 d).arrAt 3 cfg0.N = blocks m d := by
  refine (dats m 0 d).arrAt_eq_of_covers 3 _ (by decide +kernel) fun t _ y => ?_
  blk_simp
  rw [point_leaves]
  refine blocks_at m d t _ y ?_ ?_ ?_ ?_ <;> blk_simp [idx_val t] <;> omega

/-- The array the run leaves as its result. -/
abbrev result : FVec Ideal S128x21x200x5 .f32 := cropped (blocks m d)

theorem tail_result : Pipeline.afterTail₀ cfgs (dats m) 0 (V0 m) [hostOps1] d main_v0 = result m d := by
  unfold Pipeline.afterTail₀
  rw [List.flatten_singleton, result_read]
  refine congrArg cropped ?_
  refine (Pipeline.withArrays_arr spec0 launch0.win.arr_inj d (V0 m d) _ 3).trans ?_
  exact blocks_final m d

/-! ## The detections of an image -/

/-- The scores and boxes of image `b`. -/
abbrev classScore (b : Fin 128) (c : Fin 20) (l : Fin 8732) : EReal := softmax (fun q : Fin 21 => argConf m d (ix3 b l q)) c.succ
abbrev priorBox (b : Fin 128) (l : Fin 8732) (v : EReal) : Cand :=
  decoded (fun f => argLoc m d (ix3 b l f)) (fun f => argPrior m d (ix2 l f)) v

theorem result_field (b : Fin 128) (c : Fin 21) (t : Fin 200) (f : Fin 5) : result m d (ix4 b c t f)
    = ((St.final (confOf m d b) (locOf m d b) (lanePrior (argPrior m d))).at (c.castLE (by norm_num)) (t.castLE (by norm_num))).field f := by
  unfold result
  rw [cropped_at, ← plane_field]
  exact out_at ..

theorem result_background (b : Fin 128) (t : Fin 200) (f : Fin 5) : result m d (ix4 b 0 t f) = 0 := by
  rw [result_field, final_eq]
  rw [show ((0 : Fin 21).castLE (by norm_num) : Fin 24) = 0 from rfl,
    dead_row _ _ 0 (fun t => start_at _ 0 t) (start_cnt _ 0) (fun l => by rw [start_background]; exact θ_nonneg)]
  fin_cases f <;> rfl

theorem result_at (b : Fin 128) (c : Fin 20) (t : Fin 200) (f : Fin 5) (keep : Fin 200 → Bool)
    (hkeep : Kept (classScore m d b c) (priorBox m d b) keep) :
    result m d (ix4 b c.succ t f) = (detection (classScore m d b c) (priorBox m d b) keep t).field f := by
  rw [result_field, final_eq]
  refine congrArg (Cand.field · f) ?_
  refine live_row (boxes (locOf m d b) (lanePrior (argPrior m d))) (St.start (confOf m d b)) ⟨c.val + 1, by omega⟩ (fun t => start_at _ _ t)
    (start_cnt _ _) (classScore m d b c) (priorBox m d b) (fun l => ?_) (fun l h v => ?_) keep (fun _ _ => rfl) hkeep t
  · rw [start_class]
    split
    · rename_i h
      refine congrArg (softmax · c.succ) (funext fun j => ?_)
      exact laneConf_at _ b _ l j.isLt h
    · rfl
  · rw [lane_boxes]
    refine congrArg₂ (decoded · · v) (funext fun f => ?_) (funext fun f => ?_)
    · exact laneLoc_at _ b _ l f.isLt h
    · exact lanePrior_at _ _ l f.isLt h

end Blocks

end Cert.Proof.KernelIdeal

end
-- ==== Proof.ReferenceIdealRead.lean ====
/-
  The reference's gathers and sorts, read at an index: a gather takes the row its start index names, and the two sorts
  list a row in the order `Picks.order` of its key.
-/
module

public import proofs.«01_k».proof.Proof.ReferenceIdealRun
public import proofs.«01_k».proof.Proof.Scalars
public import Idealize.ShloMosaic.Lib.Pointwise

@[expose] public section

set_option maxRecDepth 16384

noncomputable section

namespace Cert.Proof.ReferenceIdeal

open Cert.ReferenceIdeal Cert.Proof.Picks Cert.Proof.Scalars
open Idealize.ShloMosaic Idealize.ShloMosaic.TcCoe

section Gathers

variable {α : Type} (idx : IVec S128x20x200x1 32) (b : Fin 128) (c : Fin 20) (k : Fin 200)

/-- The start index at a result position, clamped to the axis. -/
abbrev startAt (n : Nat) : Nat := min (idx (ix4 b c k 0)).toInt.toNat (n - 1)

/-- The boxes a row of indices names. -/
theorem gather_boxes (x : S128x8732x4.Idx → α) (f : Fin 4) :
    Host.gather gather_S128x8732x4_S128x20x200x1_S128x20x200x4_3_1_0_0_1_3_114 x idx (ix4 b c k f)
      = x (ix3 b (⟨startAt idx b c k 8732, by unfold startAt; omega⟩ : Fin 8732) f) := by
  unfold Host.gather
  congr 1
  funext a
  refine Fin.ext ?_
  show GatherDims.start _ _ idx a + GatherDims.batchCoord _ _ a + GatherDims.offCoord _ _ a = _
  match a with
  | ⟨0, _⟩ =>
    rw [GatherDims.start_batching _ _ _ _ (by decide +revert), GatherDims.offCoord_eq_zero _ _ _ (by decide +revert)]
    unfold GatherDims.batchCoord
    rw [dif_pos (by decide +revert), Nat.zero_add, Nat.add_zero]
    rfl
  | ⟨1, _⟩ =>
    rw [GatherDims.batchCoord_eq_zero _ _ _ (by decide +revert), GatherDims.offCoord_eq_zero _ _ _ (by decide +revert)]
    have hsi : ∀ n, GatherDims.siIdx gather_S128x8732x4_S128x20x200x1_S128x20x200x4_3_1_0_0_1_3_114 (ix4 b c k f) n = ix4 b c k 0 := by
      intro n; funext b; refine Fin.ext ?_
      match b with
      | ⟨0, _⟩ => rfl
      | ⟨1, _⟩ => rfl
      | ⟨2, _⟩ => rfl
      | ⟨3, _⟩ => exact Nat.lt_one_iff.mp n.isLt
    unfold GatherDims.start
    rw [dif_pos (by decide +revert), hsi]
    rfl
  | ⟨2, _⟩ =>
    rw [GatherDims.batchCoord_eq_zero _ _ _ (by decide +revert), Nat.add_zero]
    unfold GatherDims.start GatherDims.offCoord
    rw [dif_neg (by decide +revert), dif_pos (by decide +revert), Nat.zero_add]
    rfl

/-- The entries of a class row its indices name. -/
theorem gather_entries (x : S128x20x200.Idx → α) :
    Host.gather gather_S128x20x200_S128x20x200x1_S128x20x200_n_2_01_01_2_3_111 x idx (ix3 b c k)
      = x (ix3 b c (⟨startAt idx b c k 200, by unfold startAt; omega⟩ : Fin 200)) := by
  unfold Host.gather
  congr 1
  funext a
  refine Fin.ext ?_
  show GatherDims.start _ _ idx a + GatherDims.batchCoord _ _ a + GatherDims.offCoord _ _ a = _
  match a with
  | ⟨0, _⟩ =>
    rw [GatherDims.start_batching _ _ _ _ (by decide +revert), GatherDims.offCoord_eq_zero _ _ _ (by decide +revert)]
    unfold GatherDims.batchCoord
    rw [dif_pos (by decide +revert), Nat.zero_add, Nat.add_zero]
    rfl
  | ⟨1, _⟩ =>
    rw [GatherDims.start_batching _ _ _ _ (by decide +revert), GatherDims.offCoord_eq_zero _ _ _ (by decide +revert)]
    unfold GatherDims.batchCoord
    rw [dif_pos (by decide +revert), Nat.zero_add, Nat.add_zero]
    rfl
  | ⟨2, _⟩ =>
    rw [GatherDims.batchCoord_eq_zero _ _ _ (by decide +revert), GatherDims.offCoord_eq_zero _ _ _ (by decide +revert)]
    have hsi : ∀ n, GatherDims.siIdx gather_S128x20x200_S128x20x200x1_S128x20x200_n_2_01_01_2_3_111 (ix3 b c k) n = ix4 b c k 0 := by
      intro n; funext b; refine Fin.ext ?_
      match b with
      | ⟨0, _⟩ => rfl
      | ⟨1, _⟩ => rfl
      | ⟨2, _⟩ => rfl
      | ⟨3, _⟩ => exact Nat.lt_one_iff.mp n.isLt
    unfold GatherDims.start
    rw [dif_pos (by decide +revert), hsi]
    rfl

/-- The boxes of a class row its indices name. -/
theorem gather_rows (x : S128x20x200x4.Idx → α) (f : Fin 4) :
    Host.gather gather_S128x20x200x4_S128x20x200x1_S128x20x200x4_3_2_01_01_2_3_1114 x idx (ix4 b c k f)
      = x (ix4 b c (⟨startAt idx b c k 200, by unfold startAt; omega⟩ : Fin 200) f) := by
  unfold Host.gather
  congr 1
  funext a
  refine Fin.ext ?_
  show GatherDims.start _ _ idx a + GatherDims.batchCoord _ _ a + GatherDims.offCoord _ _ a = _
  match a with
  | ⟨0, _⟩ =>
    rw [GatherDims.start_batching _ _ _ _ (by decide +revert), GatherDims.offCoord_eq_zero _ _ _ (by decide +revert)]
    unfold GatherDims.batchCoord
    rw [dif_pos (by decide +revert), Nat.zero_add, Nat.add_zero]
    rfl
  | ⟨1, _⟩ =>
    rw [GatherDims.start_batching _ _ _ _ (by decide +revert), GatherDims.offCoord_eq_zero _ _ _ (by decide +revert)]
    unfold GatherDims.batchCoord
    rw [dif_pos (by decide +revert), Nat.zero_add, Nat.add_zero]
    rfl
  | ⟨2, _⟩ =>
    rw [GatherDims.batchCoord_eq_zero _ _ _ (by decide +revert), GatherDims.offCoord_eq_zero _ _ _ (by decide +revert)]
    have hsi : ∀ n, GatherDims.siIdx gather_S128x20x200x4_S128x20x200x1_S128x20x200x4_3_2_01_01_2_3_1114 (ix4 b c k f) n = ix4 b c k 0 := by
      intro n; funext b; refine Fin.ext ?_
      match b with
      | ⟨0, _⟩ => rfl
      | ⟨1, _⟩ => rfl
      | ⟨2, _⟩ => rfl
      | ⟨3, _⟩ => exact Nat.lt_one_iff.mp n.isLt
    unfold GatherDims.start
    rw [dif_pos (by decide +revert), hsi]
    rfl
  | ⟨3, _⟩ =>
    rw [GatherDims.batchCoord_eq_zero _ _ _ (by decide +revert), Nat.add_zero]
    unfold GatherDims.start GatherDims.offCoord
    rw [dif_neg (by decide +revert), dif_pos (by decide +revert), Nat.zero_add]
    rfl

end Gathers

/-! ### Small words as indices -/

/-- A small index, read signed, is itself. -/
theorem word_toInt (n : Nat) (hn : n < 8732) : (BitVec.ofNat 32 n).toInt = (n : Int) := by
  have h : (BitVec.ofNat 32 n).toNat = n := by rw [BitVec.toNat_ofNat]; omega
  rw [BitVec.toInt_eq_toNat_cond, h, if_pos (by omega)]

/-- A small index is not negative, so the wrap leaves it. -/
theorem wrap_word (n : Nat) (hn : n < 8732) (w : BitVec 32) :
    Scalar.select (IntOp.cmpi .slt (BitVec.ofNat 32 n) 0#32) w (BitVec.ofNat 32 n) = BitVec.ofNat 32 n := by
  have h : (BitVec.ofNat 32 n).slt 0#32 = false := by
    simp only [BitVec.slt, word_toInt n hn, decide_eq_false_iff_not]
    simp
  simp [Scalar.select, IntOp.cmpi, h]

/-- A small index, read signed and clamped to its axis, is itself. -/
theorem clamp_word (n : Nat) (hn : n < 8732) (N : Nat) (hN : n < N) :
    min (BitVec.ofNat 32 n).toInt.toNat (N - 1) = n := by
  rw [word_toInt n hn]; omega

/-! ### The two sorts -/

section Sorts

variable (b : Fin 128) (c : Fin 20) (k : Fin 200)

/-- A position moved along the last axis. -/
theorem along_last (n : Nat) (i j : Fin n) :
    Shape.Idx.along (s := ⟨3, ![128, 20, n]⟩) (ix3 b c i) (2 : Fin 3) j = ix3 b c j := by
  funext a
  match a with
  | ⟨0, _⟩ => rfl
  | ⟨1, _⟩ => rfl
  | ⟨2, _⟩ => rfl

/-- A sort of two operands along the last axis reads both at one permuted place. -/
theorem sort_last {α β : Type} {n : Nat} (cmp : α × β → α × β → BitVec 1) (x : (⟨3, ![128, 20, n]⟩ : Shape).Idx → α)
    (y : (⟨3, ![128, 20, n]⟩ : Shape).Idx → β) (i : Fin n) (q : Fin n → Fin n)
    (hq : q = sortedFrom fun k k' => cmp (x (ix3 b c k), y (ix3 b c k)) (x (ix3 b c k'), y (ix3 b c k')) == 1#1) :
    (Host.sort2 ⟨3, ![128, 20, n]⟩ 2 cmp x y).1 (ix3 b c i) = x (ix3 b c (q i))
      ∧ (Host.sort2 ⟨3, ![128, 20, n]⟩ 2 cmp x y).2 (ix3 b c i) = y (ix3 b c (q i)) := by
  let at' (j : Fin n) : (⟨3, ![128, 20, n]⟩ : Shape).Idx :=
    Shape.Idx.along (s := ⟨3, ![128, 20, n]⟩) (ix3 b c i) (2 : Fin 3) j
  have e : ∀ j : Fin n, at' j = ix3 b c j := along_last b c n i
  have hπ : (sortedFrom fun k k' => cmp (x (at' k), y (at' k)) (x (at' k'), y (at' k')) == 1#1) = q := by
    rw [hq]; simp only [e]
  have hd : 2 < (⟨3, ![128, 20, n]⟩ : Shape).rank := Nat.lt_succ_self 2
  unfold Host.sort2
  rw [dif_pos hd]
  exact ⟨(congrArg (fun p : Fin n → Fin n => x (at' (p i))) hπ).trans (congrArg x (e (q i))),
    (congrArg (fun p : Fin n → Fin n => y (at' (p i))) hπ).trans (congrArg y (e (q i)))⟩

/-- The first entries of the last axis. -/
theorem first_entries {α : Type} (v : S128x20x8732.Idx → α) (h) :
    extractStridedSlice S128x20x200 (fun _ => 0) v h (ix3 b c k) = v (ix3 b c (k.castLE (by decide) : Fin 8732)) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

variable (x : FVec Ideal S128x20x8732 .f32)

/-- A class row's scores. -/
abbrev rowOf (l : Fin 8732) : EReal := x (ix3 b c l)

theorem before_score (u v : EReal) : (FloatOps.cmpfTotal (F := Ideal) (φ := .f32) .gt u v == 1#1) = decide (v < u) := by
  show (BitVec.ofBool (decide (u > v)) == 1#1) = _
  by_cases h : v < u <;> simp [h]

/-- The row's largest scores, in order. -/
theorem topK_values :
    (Host.topK S128x20x200 2 (FloatOps.cmpfTotal .gt) x Facts₀.sliceFits_S128x20x8732_S128x20x200).1 (ix3 b c k)
      = rowOf b c x (order (rowOf b c x) (k.castLE (by decide))) := by
  unfold Host.topK
  dsimp only
  rw [first_entries]
  exact (sort_last b c _ x _ _ _ (congrArg sortedFrom (funext₂ fun i j => (before_score _ _).symm))).1

/-- Their places. -/
theorem topK_indices :
    (Host.topK S128x20x200 2 (FloatOps.cmpfTotal .gt) x Facts₀.sliceFits_S128x20x8732_S128x20x200).2 (ix3 b c k)
      = BitVec.ofNat 32 (order (rowOf b c x) (k.castLE (by decide))).val := by
  unfold Host.topK
  dsimp only
  rw [first_entries]
  exact (sort_last b c _ x _ _ _ (congrArg sortedFrom (funext₂ fun i j => (before_score _ _).symm))).2

theorem before_bit (u v : BitVec 1) :
    (IntOp.cmpi .ult (~~~u) (~~~v) == 1#1) = decide ((v == 1#1) < (u == 1#1)) := by
  revert u v; decide

/-- The kept entries first, each in its order. -/
theorem sort_kept (keep : IVec S128x20x200 1) :
    (Host.sort2 S128x20x200 2 comparator_i1_i32_d2 (noti keep) (iotaInDim S128x20x200 32 2)).2 (ix3 b c k)
      = BitVec.ofNat 32 (order (fun j : Fin 200 => keep (ix3 b c j) == 1#1) k).val :=
  (sort_last b c comparator_i1_i32_d2 (noti keep) (iotaInDim S128x20x200 32 2) k
    (order fun j : Fin 200 => keep (ix3 b c j) == 1#1)
    (congrArg sortedFrom (funext₂ fun i j => (before_bit (keep (ix3 b c i)) (keep (ix3 b c j))).symm))).2

end Sorts

end Cert.Proof.ReferenceIdeal

end
-- ==== Proof.ReferenceIdealScores.lean ====
/-
  The reference before its loop: the class scores as a softmax of each prior's confidences, the decoded boxes, and which
  of a class row's chosen boxes overlap.
-/
module

public import proofs.«01_k».proof.Proof.ReferenceIdealRead
public import Idealize.ShloMosaic.Lib.StableHlo.RunRead

@[expose] public section

set_option maxRecDepth 16384

noncomputable section

namespace Cert.Proof.ReferenceIdeal

open Cert.ReferenceIdeal Cert.ReferenceIdeal.Gen Cert.ReferenceIdeal.Value Cert.Proof.Picks Cert.Proof.Scalars
open Idealize.ShloMosaic Idealize.ShloMosaic.TcCoe Idealize.ShloMosaic.StableHlo

section Scores

variable (x : FVec Ideal S128x8732x21 .f32)

/-- The largest confidence of each prior. -/
def rowMax : FVec Ideal S128x8732 .f32 :=
  Host.reduce FloatOps.maximumf x (constant S_ .f32 0xFF800000#32) Facts₀.reducesTo_S128x8732x21_S128x8732_d2 Facts₀.h_S_
/-- A row against −∞. -/
def floored (y : FVec Ideal S128x8732 .f32) : FVec Ideal S128x8732 .f32 :=
  maximumf (broadcastInDim S128x8732 ![] Facts₀.bcast_S_S128x8732 (constant S_ .f32 0xFF800000#32)) y
/-- A prior's value at each class. -/
def alongClass (y : FVec Ideal S128x8732 .f32) : FVec Ideal S128x8732x21 .f32 :=
  broadcastInDim S128x8732x21 ![0, 1, 2] Facts₀.bcast_S128x8732x1_S128x8732x21_0_1_2
    (broadcastInDim S128x8732x1 ![0, 1] Facts₀.bcast_S128x8732_S128x8732x1_0_1 y)
/-- The exponentials. -/
def exps : FVec Ideal S128x8732x21 .f32 := Host.exp (subf x (alongClass (floored (rowMax x))))
/-- Their sum over the classes. -/
def sums : FVec Ideal S128x8732 .f32 :=
  Host.reduceAdd (exps x) (constant S_ .f32 0x00000000#32) Facts₀.reducesTo_S128x8732x21_S128x8732_d2 Facts₀.h_S_
/-- The scores, one row per class but the background. -/
def classScores : FVec Ideal S128x20x8732 .f32 :=
  extractStridedSlice S128x20x8732 ![0, 1, 0]
    (transpose S128x21x8732 [0, 2, 1] (Host.divf (exps x) (alongClass (sums x))) Facts₀.transposes_S128x8732x21_S128x21x8732_0_2_1)
    Facts₀.slices_S128x21x8732_S128x20x8732_0_1_0

variable (b : Fin 128) (c : Fin 20) (l : Fin 8732) (q : Fin 21)

theorem rowMax_at : rowMax x (ix2 b l) = Finset.univ.fold max ⊥ fun q : Fin 21 => x (ix3 b l q) := by
  pointwise [rowMax]
  rw [ofBits_bot]
theorem floored_at (y : FVec Ideal S128x8732 .f32) : floored y (ix2 b l) = y (ix2 b l) := by
  pointwise [floored]
  rw [ofBits_bot]
  exact max_eq_right bot_le
theorem exps_at : exps x (ix3 b l q) = Ideal.exp (x (ix3 b l q) - floored (rowMax x) (ix2 b l)) := by
  pointwise [exps, alongClass]
theorem sums_at : sums x (ix2 b l) = ∑ q : Fin 21, exps x (ix3 b l q) := by
  pointwise [sums]
theorem classScores_at :
    classScores x (ix3 b c l) = softmax (fun q : Fin 21 => x (ix3 b l q)) ⟨1 + c.val, by omega⟩ := by
  have h : classScores x (ix3 b c l) = Ideal.div (exps x (ix3 b l ⟨1 + c.val, by omega⟩)) (sums x (ix2 b l)) := by
    pointwise [classScores, alongClass]
  rw [h, sums_at]
  simp only [exps_at, floored_at, rowMax_at]
  rfl

end Scores

section Boxes

variable (x : FVec Ideal S128x8732x4 .f32) (p : FVec Ideal S8732x4 .f32)

/-- Half of each prior, the same for every image. -/
def forEach (y : FVec Ideal S8732x2 .f32) : FVec Ideal S128x8732x2 .f32 :=
  broadcastInDim S128x8732x2 ![0, 1, 2] Facts₀.bcast_S1x8732x2_S128x8732x2_0_1_2
    (broadcastInDim S1x8732x2 ![1, 2] Facts₀.bcast_S8732x2_S1x8732x2_1_2 y)
/-- One constant. -/
def every (v : BitVec 32) : FVec Ideal S128x8732x2 .f32 := broadcastInDim S128x8732x2 ![] Facts₀.bcast_S_S128x8732x2 (constant S_ .f32 v)
/-- The centres. -/
def centres : FVec Ideal S128x8732x2 .f32 :=
  addf (forEach (extractStridedSlice S8732x2 ![0, 0] p Facts₀.slices_S8732x4_S8732x2_0_0))
    (mulf (mulf (extractStridedSlice S128x8732x2 ![0, 0, 0] x Facts₀.slices_S128x8732x4_S128x8732x2_0_0_0) (every 0x3DCCCCCD#32))
      (forEach (extractStridedSlice S8732x2 ![0, 2] p Facts₀.slices_S8732x4_S8732x2_0_2)))
/-- The extents. -/
def extents : FVec Ideal S128x8732x2 .f32 :=
  mulf (forEach (extractStridedSlice S8732x2 ![0, 2] p Facts₀.slices_S8732x4_S8732x2_0_2))
    (Host.exp (mulf (extractStridedSlice S128x8732x2 ![0, 0, 2] x Facts₀.slices_S128x8732x4_S128x8732x2_0_0_2) (every 0x3E4CCCCD#32)))
/-- The corners near the origin and the corners away from it. -/
def corners : FVec Ideal S128x8732x4 .f32 :=
  concatenate S128x8732x4 2 [⟨S128x8732x2, subf (centres x p) (mulf (extents x p) (every 0x3F000000#32))⟩,
    ⟨S128x8732x2, addf (centres x p) (mulf (extents x p) (every 0x3F000000#32))⟩]
    Facts₀.concatenates_S128x8732x2_S128x8732x2_S128x8732x4_d2

variable (b : Fin 128) (l : Fin 8732)

theorem corners_at (v : EReal) : Cand.mk (corners x p (ix3 b l 0)) (corners x p (ix3 b l 1)) (corners x p (ix3 b l 2))
    (corners x p (ix3 b l 3)) ((corners x p (ix3 b l 2) - corners x p (ix3 b l 0)) * (corners x p (ix3 b l 3) - corners x p (ix3 b l 1))) v
      = decoded (fun f => x (ix3 b l f)) (fun f => p (ix2 l f)) v := by
  unfold decoded centre half
  congr 1 <;> pointwise [corners, centres, extents, forEach, every]

end Boxes

section Chosen

variable (s : FVec Ideal S128x20x8732 .f32) (x : FVec Ideal S128x8732x4 .f32) (w : FVec Ideal S128x20x200x4 .f32)

/-- Each class's largest scores. -/
def best : FVec Ideal S128x20x200 .f32 :=
  (Host.topK S128x20x200 2 (FloatOps.cmpfTotal .gt) s Facts₀.sliceFits_S128x20x8732_S128x20x200).1
/-- Their places. -/
def places : IVec S128x20x200 32 :=
  (Host.topK S128x20x200 2 (FloatOps.cmpfTotal .gt) s Facts₀.sliceFits_S128x20x8732_S128x20x200).2
/-- Which scores reach the confidence threshold. -/
def valid (v : FVec Ideal S128x20x200 .f32) : IVec S128x20x200 1 :=
  cmpf .ogt v (broadcastInDim S128x20x200 ![] Facts₀.bcast_S_S128x20x200 (constant S_ .f32 0x3C23D70A#32))
/-- Places, a negative one counted from the end. -/
def wrapped (n : BitVec 32) (i : IVec S128x20x200 32) : IVec S128x20x200 32 :=
  select (cmpi .slt i (broadcastInDim S128x20x200 ![] Facts₀.bcast_S_S128x20x200 (constantI S_ 32 0#32)))
    (addi i (broadcastInDim S128x20x200 ![] Facts₀.bcast_S_S128x20x200 (constantI S_ 32 n))) i
/-- Places as start indices. -/
def starts (i : IVec S128x20x200 32) : IVec S128x20x200x1 32 :=
  broadcastInDim S128x20x200x1 ![0, 1, 2] Facts₀.bcast_S128x20x200_S128x20x200x1_0_1_2 i
/-- Their boxes. -/
def chosen : FVec Ideal S128x20x200x4 .f32 :=
  Host.gather gather_S128x8732x4_S128x20x200x1_S128x20x200x4_3_1_0_0_1_3_114 x (starts (wrapped 8732#32 (places s)))
/-- One column of the boxes. -/
def col (f : Fin 4) (h : S128x20x200x4.Slices ![0, 0, 0, f.val] S128x20x200x1) : FVec Ideal S128x20x200 .f32 :=
  shapeCast S128x20x200 (extractStridedSlice S128x20x200x1 ![0, 0, 0, f.val] w h) Facts₀.shapeCasts_S128x20x200x1_S128x20x200
/-- A column for the first of each pair. -/
def first (y : FVec Ideal S128x20x200 .f32) : FVec Ideal S128x20x200x200 .f32 :=
  broadcastInDim S128x20x200x200 ![0, 1, 2, 3] Facts₀.bcast_S128x20x200x1_S128x20x200x200_0_1_2_3
    (broadcastInDim S128x20x200x1 ![0, 1, 2] Facts₀.bcast_S128x20x200_S128x20x200x1_0_1_2 y)
/-- A column for the second of each pair. -/
def second (y : FVec Ideal S128x20x200 .f32) : FVec Ideal S128x20x200x200 .f32 :=
  broadcastInDim S128x20x200x200 ![0, 1, 2, 3] Facts₀.bcast_S128x20x1x200_S128x20x200x200_0_1_2_3
    (broadcastInDim S128x20x1x200 ![0, 1, 3] Facts₀.bcast_S128x20x200_S128x20x1x200_0_1_3 y)
/-- What two spans of an axis have in common. -/
def common (lo hi : FVec Ideal S128x20x200 .f32) : FVec Ideal S128x20x200x200 .f32 :=
  maximumf (subf (minimumf (first hi) (second hi)) (maximumf (first lo) (second lo)))
    (broadcastInDim S128x20x200x200 ![] Facts₀.bcast_S_S128x20x200x200 (constant S_ .f32 0x00000000#32))
/-- The ratio of the common area to the joint one against the threshold. -/
def ratioOver (a : FVec Ideal S128x20x200 .f32) (i : FVec Ideal S128x20x200x200 .f32) : IVec S128x20x200x200 1 :=
  cmpf .ogt (Host.divf i (subf (addf (first a) (second a)) i))
    (broadcastInDim S128x20x200x200 ![] Facts₀.bcast_S_S128x20x200x200 (constant S_ .f32 0x3EE66666#32))
/-- The boxes' areas. -/
def areas (x1 y1 x2 y2 : FVec Ideal S128x20x200 .f32) : FVec Ideal S128x20x200 .f32 := mulf (subf x2 x1) (subf y2 y1)
/-- Which pairs overlap too much. -/
def overlaps : IVec S128x20x200x200 1 :=
  ratioOver (areas (col w 0 Facts₀.slices_S128x20x200x4_S128x20x200x1_0_0_0_0) (col w 1 Facts₀.slices_S128x20x200x4_S128x20x200x1_0_0_0_1)
      (col w 2 Facts₀.slices_S128x20x200x4_S128x20x200x1_0_0_0_2) (col w 3 Facts₀.slices_S128x20x200x4_S128x20x200x1_0_0_0_3))
    (mulf (common (col w 0 Facts₀.slices_S128x20x200x4_S128x20x200x1_0_0_0_0) (col w 2 Facts₀.slices_S128x20x200x4_S128x20x200x1_0_0_0_2))
      (common (col w 1 Facts₀.slices_S128x20x200x4_S128x20x200x1_0_0_0_1) (col w 3 Facts₀.slices_S128x20x200x4_S128x20x200x1_0_0_0_3)))

variable (b : Fin 128) (c : Fin 20) (i j : Fin 200)

/-- The chosen box at a position, with its area and a score. -/
def boxAt (v : EReal) : Cand :=
  ⟨w (ix4 b c i 0), w (ix4 b c i 1), w (ix4 b c i 2), w (ix4 b c i 3),
    (w (ix4 b c i 2) - w (ix4 b c i 0)) * (w (ix4 b c i 3) - w (ix4 b c i 1)), v⟩

theorem col_at (f : Fin 4) (h) : col w f h (ix3 b c i) = w (ix4 b c i f) := by
  fin_cases f <;> pointwise [col]
theorem common_at (lo hi : FVec Ideal S128x20x200 .f32) : common lo hi (ix4 b c i j)
    = max (min (hi (ix3 b c i)) (hi (ix3 b c j)) - max (lo (ix3 b c i)) (lo (ix3 b c j))) 0 := by
  pointwise [common, first, second]
theorem ratioOver_at (a : FVec Ideal S128x20x200 .f32) (q : FVec Ideal S128x20x200x200 .f32) :
    ratioOver a q (ix4 b c i j) = 1#1
      ↔ Scalars.τ < Ideal.div (q (ix4 b c i j)) (a (ix3 b c i) + a (ix3 b c j) - q (ix4 b c i j)) := by
  pointwise [ratioOver, first, second]
  exact (ofBool_eq_one _).trans decide_eq_true_iff
theorem areas_at (x1 y1 x2 y2 : FVec Ideal S128x20x200 .f32) : areas x1 y1 x2 y2 (ix3 b c i)
    = (x2 (ix3 b c i) - x1 (ix3 b c i)) * (y2 (ix3 b c i) - y1 (ix3 b c i)) := by
  pointwise [areas]
theorem overlaps_at (u v : EReal) : overlaps w (ix4 b c i j) = 1#1 ↔ over (boxAt w b c i u) (boxAt w b c j v) := by
  unfold overlaps
  rw [ratioOver_at, areas_at, areas_at]
  change Scalars.τ < Ideal.div (common _ _ _ * common _ _ _) (_ - common _ _ _ * common _ _ _) ↔ _
  rw [common_at, common_at]
  simp only [col_at w b c i 0, col_at w b c i 1, col_at w b c i 2, col_at w b c i 3,
    col_at w b c j 0, col_at w b c j 1, col_at w b c j 2, col_at w b c j 3]
  unfold over
  rw [inter_comm, add_comm (boxAt w b c j v).ar]
  rfl
theorem valid_at (y : FVec Ideal S128x20x200 .f32) : valid y (ix3 b c i) = 1#1 ↔ θ < y (ix3 b c i) := by
  pointwise [valid]
  exact (ofBool_eq_one _).trans decide_eq_true_iff
theorem chosen_at (f : Fin 4) : chosen s x (ix4 b c i f)
    = x (ix3 b (order (rowOf b c s) (i.castLE (by decide))) f) := by
  have h : starts (wrapped 8732#32 (places s)) (ix4 b c i 0)
      = Scalar.select (IntOp.cmpi .slt (places s (ix3 b c i)) 0#32) (IntOp.addi (places s (ix3 b c i)) 8732#32) (places s (ix3 b c i)) := by
    pointwise [starts, wrapped]
  have hp : places s (ix3 b c i) = BitVec.ofNat 32 (order (rowOf b c s) (i.castLE (by decide))).val := topK_indices b c i s
  have hlt := (order (rowOf b c s) (i.castLE (by decide))).isLt
  unfold chosen
  rw [gather_boxes]
  refine congrArg (fun t : Fin 8732 => x (ix3 b t f)) (Fin.ext ?_)
  have e : startAt (starts (wrapped 8732#32 (places s))) b c i 8732 = (order (rowOf b c s) (i.castLE (by decide))).val := by
    unfold startAt
    rw [h, hp, wrap_word _ hlt, clamp_word _ hlt 8732 hlt]
  exact e

end Chosen

section Entry

variable (V : Valuation τ sig (Elt Ideal))

theorem scores_read : after hostOps0 V (Proc.devRef .tc main_v38) = classScores (V (Proc.devRef .tc main_arg1)) := by
  after_reads_simp
  rfl
theorem corners_read : after hostOps0 V (Proc.devRef .tc main_v36)
    = corners (V (Proc.devRef .tc main_arg0)) (V (Proc.devRef .tc main_arg2)) := by
  after_reads_simp
  have h32 : upto hostOps0 V 43 (Proc.devRef .tc main_v32)
      = subf (centres (V (Proc.devRef .tc main_arg0)) (V (Proc.devRef .tc main_arg2)))
          (mulf (extents (V (Proc.devRef .tc main_arg0)) (V (Proc.devRef .tc main_arg2))) (every 0x3F000000#32)) := by
    after_reads_simp; rfl
  have h35 : upto hostOps0 V 43 (Proc.devRef .tc main_v35)
      = addf (centres (V (Proc.devRef .tc main_arg0)) (V (Proc.devRef .tc main_arg2)))
          (mulf (extents (V (Proc.devRef .tc main_arg0)) (V (Proc.devRef .tc main_arg2))) (every 0x3F000000#32)) := by
    after_reads_simp; rfl
  rw [h32, h35]
  rfl

theorem best_read : after hostOps0 V (Proc.devRef .tc main_values) = best (after hostOps0 V (Proc.devRef .tc main_v38)) := by
  after_reads_simp
  rfl
theorem valid_read : after hostOps0 V (Proc.devRef .tc main_v97_2) = valid (after hostOps0 V (Proc.devRef .tc main_values)) := by
  after_reads_simp
  rfl
theorem chosen_read : after hostOps0 V (Proc.devRef .tc main_v47)
    = chosen (after hostOps0 V (Proc.devRef .tc main_v38)) (after hostOps0 V (Proc.devRef .tc main_v36)) := by
  after_reads_simp
  rfl
theorem overlaps_read : after hostOps0 V (Proc.devRef .tc main_v97_0) = overlaps (after hostOps0 V (Proc.devRef .tc main_v47)) := by
  after_reads_simp
  rfl
theorem places_read : after hostOps0 V (Proc.devRef .tc main_v97_1) = iotaInDim S128x20x200 32 2 := by
  after_reads_simp
  rfl
theorem count_read : after hostOps0 V (Proc.devRef .tc main_v97_4) = constantI S_ 32 0#32 := by
  after_reads_simp
  rfl
theorem none_read : after hostOps0 V (Proc.devRef .tc main_v97_5)
    = broadcastInDim S128x20x200 ![] Facts₀.bcast_S_S128x20x200 (constantI S_ 1 0#1) := by
  after_reads_simp
  rfl

end Entry
end Cert.Proof.ReferenceIdeal

end
-- ==== Proof.ReferenceIdealSweep.lean ====
/-
  The reference's loop over the extended reals: trip `k` decides the `k`-th chosen box of every class row by the boxes
  kept before it, so after the loop each row holds the one choice the rule determines.
-/
module

public import proofs.«01_k».proof.Proof.ReferenceIdealScores

@[expose] public section

set_option maxRecDepth 16384

noncomputable section

namespace Cert.Proof.ReferenceIdeal

open Cert.ReferenceIdeal Cert.ReferenceIdeal.Gen Cert.ReferenceIdeal.Value Cert.Proof.Picks Cert.Proof.Scalars
open Idealize.ShloMosaic Idealize.ShloMosaic.TcCoe Idealize.ShloMosaic.StableHlo

section Trip

variable (at' : IVec S_ 32) (here : IVec S128x20x200 32) (keep valid : IVec S128x20x200 1) (o : IVec S128x20x200x200 1)

/-- Which boxes a kept one overlaps too much. -/
def hit : IVec S128x20x200 1 :=
  Host.reduce IntOp.ori (andi (broadcastInDim S128x20x200x200 ![0, 1, 2, 3] Facts₀.bcast_S128x20x200x1_S128x20x200x200_0_1_2_3
    (broadcastInDim S128x20x200x1 ![0, 1, 2] Facts₀.bcast_S128x20x200_S128x20x200x1_0_1_2 keep)) o) (constantI S_ 1 0#1)
    Facts₀.reducesTo_S128x20x200x200_S128x20x200_d2 Facts₀.h_S_

/-- The kept boxes after a trip. -/
def swept : IVec S128x20x200 1 :=
  select (cmpi .eq here (broadcastInDim S128x20x200 ![] Facts₀.bcast_S_S128x20x200 at')) (andi valid (noti (hit keep o))) keep

variable (b : Fin 128) (c : Fin 20) (i : Fin 200)

theorem hit_at : hit keep o (ix3 b c i) = 1#1 ↔ ∃ j : Fin 200, keep (ix3 b c j) = 1#1 ∧ o (ix4 b c j i) = 1#1 := by
  pointwise [hit]
  rw [fold_ori]
  exact exists_congr fun j => andi_eq_one _ _

theorem swept_at : swept at' here keep valid o (ix3 b c i)
    = if here (ix3 b c i) = at' ix0 then IntOp.andi (valid (ix3 b c i)) (~~~ hit keep o (ix3 b c i)) else keep (ix3 b c i) := by
  pointwise [swept]
  rw [select_eq]
  unfold IntOp.cmpi
  simp only [ofBool_eq_one, beq_iff_eq]

end Trip

section Loop

variable (E : Valuation τ sig (Elt Ideal)) (valid : IVec S128x20x200 1) (o : IVec S128x20x200x200 1)

/-- The kept boxes after `k` trips. -/
abbrev keptAfter (k : ℕ) : IVec S128x20x200 1 := STEP^[k] E (Proc.devRef .tc main_v97_5)

variable (h0 : E (Proc.devRef .tc main_v97_0) = o) (h1 : E (Proc.devRef .tc main_v97_1) = iotaInDim S128x20x200 32 2)
  (h2 : E (Proc.devRef .tc main_v97_2) = valid) (h4 : E (Proc.devRef .tc main_v97_4) = constantI S_ 32 0#32)
  (h5 : E (Proc.devRef .tc main_v97_5) = broadcastInDim S128x20x200 ![] Facts₀.bcast_S_S128x20x200 (constantI S_ 1 0#1))

include h0 h1 h2 h4 in
/-- What stays and what counts. -/
theorem carried (k : ℕ) : STEP^[k] E (Proc.devRef .tc main_v97_0) = o
    ∧ STEP^[k] E (Proc.devRef .tc main_v97_1) = iotaInDim S128x20x200 32 2
    ∧ STEP^[k] E (Proc.devRef .tc main_v97_2) = valid
    ∧ STEP^[k] E (Proc.devRef .tc main_v97_4) = constantI S_ 32 (BitVec.ofNat 32 k) := by
  induction k with
  | zero => exact ⟨h0, h1, h2, h4⟩
  | succ k ih =>
    rw [Function.iterate_succ_apply', STEP_main_v97_0, STEP_main_v97_1, STEP_main_v97_2, STEP_main_v97_4]
    refine ⟨ih.1, ih.2.1, ih.2.2.1, ?_⟩
    unfold step_main_v97_4
    rw [ih.2.2.2]
    funext i
    exact (BitVec.ofNat_add k 1).symm

include h0 h1 h2 h4 in
theorem kept_succ (k : ℕ) : keptAfter E (k + 1)
    = swept (constantI S_ 32 (BitVec.ofNat 32 k)) (iotaInDim S128x20x200 32 2) (keptAfter E k) valid o := by
  obtain ⟨e0, e1, e2, e4⟩ := carried E valid o h0 h1 h2 h4 k
  unfold keptAfter
  rw [Function.iterate_succ_apply', STEP_main_v97_5]
  unfold step_main_v97_5
  rw [e0, e1, e2, e4]
  rfl

variable (b : Fin 128) (c : Fin 20)

include h0 h1 h2 h4 h5 in
/-- The boxes kept after the loop follow the rule. -/
theorem kept_rule (k : Fin 200) : keptAfter E 200 (ix3 b c k) = 1#1 ↔ valid (ix3 b c k) = 1#1
    ∧ ¬ ∃ j : Fin 200, j.val < k.val ∧ keptAfter E 200 (ix3 b c j) = 1#1 ∧ o (ix4 b c j k) = 1#1 := by
  refine sweep (val := fun i => valid (ix3 b c i) = 1#1) (over := fun j i => o (ix4 b c j i) = 1#1)
    (fun k i => keptAfter E k (ix3 b c i) = 1#1) (fun i => ?_) (fun k i hk => ?_) k
  · unfold keptAfter
    rw [Function.iterate_zero_apply, h5]
    exact show ¬ (0#1 : BitVec 1) = 1#1 by decide
  · rw [kept_succ E valid o h0 h1 h2 h4 k, swept_at]
    have e : (iotaInDim S128x20x200 32 2 (ix3 b c i) = constantI S_ 32 (BitVec.ofNat 32 k) ix0) ↔ i.val = k := by
      have hi := i.isLt
      show BitVec.ofNat 32 i.val = BitVec.ofNat 32 k ↔ _
      rw [← BitVec.toNat_inj, BitVec.toNat_ofNat, BitVec.toNat_ofNat]
      omega
    simp only [e]
    split
    · rw [andi_eq_one, ← hit_at]
      refine and_congr_right fun _ => ?_
      generalize hit _ _ _ = u
      revert u; decide
    · rfl

end Loop

end Cert.Proof.ReferenceIdeal

end
-- ==== Proof.ReferenceIdealTail.lean ====
/-
  The reference after its loop: the kept boxes of each class row first, in their order, then zeros, and a row of zeros for
  the background.
-/
module

public import proofs.«01_k».proof.Proof.ReferenceIdealSweep

@[expose] public section

set_option maxRecDepth 16384

noncomputable section

namespace Cert.Proof.ReferenceIdeal

open Cert.ReferenceIdeal Cert.ReferenceIdeal.Gen Cert.ReferenceIdeal.Value Cert.Proof.Picks Cert.Proof.Scalars
open Idealize.ShloMosaic Idealize.ShloMosaic.TcCoe Idealize.ShloMosaic.StableHlo

section Rows

variable (keep : IVec S128x20x200 1) (v : FVec Ideal S128x20x200 .f32) (w : FVec Ideal S128x20x200x4 .f32)

/-- The boxes' order: the kept ones first. -/
def slotOrder : IVec S128x20x200 32 := (Host.sort2 S128x20x200 2 comparator_i1_i32_d2 (noti keep) (iotaInDim S128x20x200 32 2)).2
/-- That order as start indices. -/
def slotStarts : IVec S128x20x200x1 32 := shapeCast S128x20x200x1 (wrapped 200#32 (slotOrder keep)) Facts₀.shapeCasts_S128x20x200_S128x20x200x1
/-- Which slots hold a box. -/
def used : IVec S128x20x200 1 :=
  Host.gather gather_S128x20x200_S128x20x200x1_S128x20x200_n_2_01_01_2_3_111 keep (slotStarts keep)
/-- The slots' scores. -/
def slotScores : FVec Ideal S128x20x200 .f32 :=
  select (used keep) (Host.gather gather_S128x20x200_S128x20x200x1_S128x20x200_n_2_01_01_2_3_111 v (slotStarts keep))
    (broadcastInDim S128x20x200 ![] Facts₀.bcast_S_S128x20x200 (constant S_ .f32 0x00000000#32))
/-- Start indices, a negative one counted from the end. -/
def wrapped' (i : IVec S128x20x200x1 32) : IVec S128x20x200x1 32 :=
  select (cmpi .slt i (broadcastInDim S128x20x200x1 ![] Facts₀.bcast_S_S128x20x200x1 (constantI S_ 32 0#32)))
    (addi i (broadcastInDim S128x20x200x1 ![] Facts₀.bcast_S_S128x20x200x1 (constantI S_ 32 200#32))) i
/-- The slots' boxes. -/
def slotBoxes : FVec Ideal S128x20x200x4 .f32 :=
  select (broadcastInDim S128x20x200x4 ![0, 1, 2, 3] Facts₀.bcast_S128x20x200x1_S128x20x200x4_0_1_2_3
      (broadcastInDim S128x20x200x1 ![0, 1, 2] Facts₀.bcast_S128x20x200_S128x20x200x1_0_1_2 (used keep)))
    (Host.gather gather_S128x20x200x4_S128x20x200x1_S128x20x200x4_3_2_01_01_2_3_1114 w (wrapped' (starts (slotOrder keep))))
    (broadcastInDim S128x20x200x4 ![] Facts₀.bcast_S_S128x20x200x4 (constant S_ .f32 0x00000000#32))
/-- Scores and boxes side by side, under a background row of zeros. -/
def table (y : FVec Ideal S128x20x200 .f32) (z : FVec Ideal S128x20x200x4 .f32) : FVec Ideal S128x21x200x5 .f32 :=
  concatenate S128x21x200x5 1 [⟨S128x1x200x5, broadcastInDim S128x1x200x5 ![] Facts₀.bcast_S_S128x1x200x5 (constant S_ .f32 0x00000000#32)⟩,
    ⟨S128x20x200x5, concatenate S128x20x200x5 3
      [⟨S128x20x200x1, broadcastInDim S128x20x200x1 ![0, 1, 2] Facts₀.bcast_S128x20x200_S128x20x200x1_0_1_2 y⟩, ⟨S128x20x200x4, z⟩]
      Facts₀.concatenates_S128x20x200x1_S128x20x200x4_S128x20x200x5_d3⟩] Facts₀.concatenates_S128x1x200x5_S128x20x200x5_S128x21x200x5_d1
/-- The result. -/
def detections : FVec Ideal S128x21x200x5 .f32 := table (slotScores keep v) (slotBoxes keep w)

variable (b : Fin 128) (c : Fin 20) (t : Fin 200)

/-- The box a slot asks for. -/
abbrev source : Fin 200 := order (fun j : Fin 200 => keep (ix3 b c j) == 1#1) t

theorem slotOrder_at : slotOrder keep (ix3 b c t) = BitVec.ofNat 32 (source keep b c t).val := sort_kept b c t keep

theorem slotStarts_at : startAt (slotStarts keep) b c t 200 = (source keep b c t).val := by
  have h : slotStarts keep (ix4 b c t 0) = Scalar.select (IntOp.cmpi .slt (slotOrder keep (ix3 b c t)) 0#32)
      (IntOp.addi (slotOrder keep (ix3 b c t)) 200#32) (slotOrder keep (ix3 b c t)) := by
    pointwise [slotStarts, wrapped]
  have hlt := (source keep b c t).isLt
  unfold startAt
  rw [h, slotOrder_at, wrap_word _ (by omega), clamp_word _ (by omega) 200 hlt]

theorem wrapped'_at : startAt (wrapped' (starts (slotOrder keep))) b c t 200 = (source keep b c t).val := by
  have h : wrapped' (starts (slotOrder keep)) (ix4 b c t 0) = Scalar.select (IntOp.cmpi .slt (slotOrder keep (ix3 b c t)) 0#32)
      (IntOp.addi (slotOrder keep (ix3 b c t)) 200#32) (slotOrder keep (ix3 b c t)) := by
    pointwise [wrapped', starts]
  have hlt := (source keep b c t).isLt
  unfold startAt
  rw [h, slotOrder_at, wrap_word _ (by omega), clamp_word _ (by omega) 200 hlt]

theorem gather_slot {α : Type} (x : S128x20x200.Idx → α) :
    Host.gather gather_S128x20x200_S128x20x200x1_S128x20x200_n_2_01_01_2_3_111 x (slotStarts keep) (ix3 b c t)
      = x (ix3 b c (source keep b c t)) :=
  (gather_entries (slotStarts keep) b c t x).trans
    (congrArg (fun j : Fin 200 => x (ix3 b c j)) (Fin.ext (slotStarts_at keep b c t)))

theorem slotScores_at : slotScores keep v (ix3 b c t)
    = if keep (ix3 b c (source keep b c t)) = 1#1 then v (ix3 b c (source keep b c t)) else 0 := by
  have h : slotScores keep v (ix3 b c t) = Scalar.select (used keep (ix3 b c t))
      (Host.gather gather_S128x20x200_S128x20x200x1_S128x20x200_n_2_01_01_2_3_111 v (slotStarts keep) (ix3 b c t)) 0 := by
    unfold slotScores
    generalize Host.gather _ v _ = y
    pointwise
  rw [h, select_eq, gather_slot]
  unfold used
  rw [gather_slot]

theorem slotBoxes_at (f : Fin 4) : slotBoxes keep w (ix4 b c t f)
    = if keep (ix3 b c (source keep b c t)) = 1#1 then w (ix4 b c (source keep b c t) f) else 0 := by
  have h : slotBoxes keep w (ix4 b c t f) = Scalar.select (used keep (ix3 b c t))
      (Host.gather gather_S128x20x200x4_S128x20x200x1_S128x20x200x4_3_2_01_01_2_3_1114 w (wrapped' (starts (slotOrder keep))) (ix4 b c t f)) 0 := by
    unfold slotBoxes
    generalize Host.gather _ w _ = y
    generalize used keep = u
    pointwise
  have e := (gather_rows (wrapped' (starts (slotOrder keep))) b c t w f).trans
    (congrArg (fun j : Fin 200 => w (ix4 b c j f)) (Fin.ext (wrapped'_at keep b c t)))
  rw [h, select_eq, e]
  unfold used
  rw [gather_slot]

section Table

variable (y : FVec Ideal S128x20x200 .f32) (z : FVec Ideal S128x20x200x4 .f32)

theorem table_background (f : Fin 5) : table y z (ix4 b 0 t f) = 0 := by
  pointwise [table]
theorem table_score : table y z (ix4 b c.succ t 0) = y (ix3 b c t) := by
  pointwise [table]
  rw [dif_neg (by simp)]
  rfl
theorem table_box (f : Fin 4) : table y z (ix4 b c.succ t f.succ) = z (ix4 b c t f) := by
  pointwise [table]
  rw [dif_neg (by simp), dif_neg (by simp)]
  rfl

end Table

end Rows

section Read

variable (X : Valuation τ sig (Elt Ideal))

theorem rows_read : after hostOps0_11 X (Proc.devRef .tc main_v110)
    = table (X (Proc.devRef .tc main_v102)) (X (Proc.devRef .tc main_v106)) := by
  after_reads_simp
  have h109 : upto hostOps0_11 X 4 (Proc.devRef .tc main_v109)
      = (broadcastInDim S128x1x200x5 ![] Facts₀.bcast_S_S128x1x200x5 (constant S_ .f32 0x00000000#32)
        : FVec Ideal S128x1x200x5 .f32) := by
    after_reads_simp
  have h107 : upto hostOps0_11 X 1 (Proc.devRef .tc main_v107)
      = broadcastInDim S128x20x200x1 ![0, 1, 2] Facts₀.bcast_S128x20x200_S128x20x200x1_0_1_2 (X (Proc.devRef .tc main_v102)) := by
    after_reads_simp
  have h106 : upto hostOps0_11 X 1 (Proc.devRef .tc main_v106) = X (Proc.devRef .tc main_v106) := by
    after_reads_simp
  have h108 : upto hostOps0_11 X 4 (Proc.devRef .tc main_v108)
      = (concatenate S128x20x200x5 3 [⟨S128x20x200x1, broadcastInDim S128x20x200x1 ![0, 1, 2]
            Facts₀.bcast_S128x20x200_S128x20x200x1_0_1_2 (X (Proc.devRef .tc main_v102))⟩,
          ⟨S128x20x200x4, X (Proc.devRef .tc main_v106)⟩] Facts₀.concatenates_S128x20x200x1_S128x20x200x4_S128x20x200x5_d3
        : FVec Ideal S128x20x200x5 .f32) := by
    after_reads_simp
    rw [h107, h106]
  rw [h109, h108]
  rfl

theorem tail_read : afterL postI X (Proc.devRef .tc main_v110)
    = detections (X (Proc.devRef .tc main_v97_5)) (X (Proc.devRef .tc main_values)) (X (Proc.devRef .tc main_v47)) := by
  simp only [postI, afterL_cons, afterL_nil]
  rw [rows_read]
  have h102 : after hostOps0_10 (after hostOps0_9 (after hostOps0_8 (after hostOps0_7 (after hostOps0_6 (after hostOps0_5
      (after hostOps0_4 (after hostOps0_3 (after hostOps0_2 (after hostOps0_1 X))))))))) (Proc.devRef .tc main_v102)
      = slotScores (X (Proc.devRef .tc main_v97_5)) (X (Proc.devRef .tc main_values)) := by
    unfold slotScores used slotStarts wrapped slotOrder
    after_reads_simp
    simp -implicitDefEqProofs only [TRef.ofBuf_toBuf, TRef.toBuf, TRef.ofBuf, cast_eq]
    rfl
  have h106 : after hostOps0_10 (after hostOps0_9 (after hostOps0_8 (after hostOps0_7 (after hostOps0_6 (after hostOps0_5
      (after hostOps0_4 (after hostOps0_3 (after hostOps0_2 (after hostOps0_1 X))))))))) (Proc.devRef .tc main_v106)
      = slotBoxes (X (Proc.devRef .tc main_v97_5)) (X (Proc.devRef .tc main_v47)) := by
    unfold slotBoxes used slotStarts wrapped wrapped' starts slotOrder
    after_reads_simp
    simp -implicitDefEqProofs only [TRef.ofBuf_toBuf, TRef.toBuf, TRef.ofBuf, cast_eq]
    rfl
  rw [h102, h106]
  rfl

end Read

end Cert.Proof.ReferenceIdeal

end
-- ==== Proof.ReferenceIdealValue.lean ====
/-
  The reference's result over the extended reals, class by class.
-/
module

public import proofs.«01_k».proof.Proof.ReferenceIdealTail

@[expose] public section

set_option maxRecDepth 16384

noncomputable section

namespace Cert.Proof.ReferenceIdeal

open Cert.ReferenceIdeal Cert.ReferenceIdeal.Gen Cert.ReferenceIdeal.Value Cert.Proof.Picks Cert.Proof.Scalars
open Idealize.ShloMosaic Idealize.ShloMosaic.TcCoe Idealize.ShloMosaic.StableHlo
open Idealize.SL.Sem

section Classes

variable (loc : FVec Ideal S128x8732x4 .f32) (conf : FVec Ideal S128x8732x21 .f32) (prior : FVec Ideal S8732x4 .f32)
variable (b : Fin 128) (c : Fin 20)

/-- A class's score of each prior. -/
def classScore (l : Fin 8732) : EReal := softmax (fun q : Fin 21 => conf (ix3 b l q)) c.succ
/-- A prior's decoded box, with a score. -/
def priorBox (l : Fin 8732) (v : EReal) : Cand := decoded (fun f => loc (ix3 b l f)) (fun f => prior (ix2 l f)) v

variable (keep : IVec S128x20x200 1)

theorem row_scores : rowOf b c (classScores conf) = classScore conf b c := by
  funext l
  show classScores conf (ix3 b c l) = _
  rw [classScores_at]
  exact congrArg (softmax _) (Fin.ext (Nat.add_comm 1 c.val))

theorem boxAt_ranked (k : Fin 200) (v : EReal) (hv : v = best (classScores conf) (ix3 b c k)) :
    boxAt (chosen (classScores conf) (corners loc prior)) b c k v = ranked (classScore conf b c) (priorBox loc prior b) k := by
  unfold boxAt ranked priorBox
  rw [← corners_at]
  simp only [chosen_at, row_scores]
  rw [hv]
  unfold best
  rw [topK_values, row_scores]

theorem best_ranked (k : Fin 200) :
    best (classScores conf) (ix3 b c k) = (ranked (classScore conf b c) (priorBox loc prior b) k).va := by
  rw [← boxAt_ranked loc conf prior b c k _ rfl]
  rfl

theorem detections_at (t : Fin 200) (f : Fin 5) :
    detections keep (best (classScores conf)) (chosen (classScores conf) (corners loc prior)) (ix4 b c.succ t f)
      = (detection (classScore conf b c) (priorBox loc prior b) (fun k => keep (ix3 b c k) == 1#1) t).field f := by
  unfold detections detection
  have hs := slotScores_at keep (best (classScores conf)) b c t
  have hb := slotBoxes_at keep (chosen (classScores conf) (corners loc prior)) b c t
  rw [best_ranked loc conf prior] at hs
  have hw := boxAt_ranked loc conf prior b c (source keep b c t) _ rfl
  simp only [beq_iff_eq]
  refine Fin.cases ?_ (fun f => ?_) f
  · rw [table_score, hs]
    split <;> rfl
  · rw [table_box, hb, ← hw]
    split <;> fin_cases f <;> rfl

end Classes

section Result

variable (m : (ℓ : Loc nD τ sig) → Buf (Elt Ideal) ℓ) (d : Dev nD)

/-- An argument's contents. -/
abbrev argLoc : FVec Ideal S128x8732x4 .f32 := m ((d.tc : Thread nD τ).loc main_arg0)
abbrev argConf : FVec Ideal S128x8732x21 .f32 := m ((d.tc : Thread nD τ).loc main_arg1)
abbrev argPrior : FVec Ideal S8732x4 .f32 := m ((d.tc : Thread nD τ).loc main_arg2)

/-- What the reference leaves. -/
abbrev result : FVec Ideal S128x21x200x5 .f32 := finalContents condOps preI bodyI postI 200 m d (Proc.devRef .tc main_v110)

/-- The kept boxes. -/
def keptBoxes : IVec S128x20x200 1 := keptAfter (entryContents preI m d) 200

theorem entry_scores : entryContents preI m d (Proc.devRef .tc main_v38) = classScores (argConf m d) := by
  simp only [entryContents, afterL_cons, afterL_nil]
  exact scores_read _
theorem entry_corners : entryContents preI m d (Proc.devRef .tc main_v36) = corners (argLoc m d) (argPrior m d) := by
  simp only [entryContents, afterL_cons, afterL_nil]
  exact corners_read _
theorem entry_best : entryContents preI m d (Proc.devRef .tc main_values) = best (classScores (argConf m d)) := by
  rw [← entry_scores]
  simp only [entryContents, afterL_cons, afterL_nil]
  exact best_read _
theorem entry_chosen : entryContents preI m d (Proc.devRef .tc main_v47)
    = chosen (classScores (argConf m d)) (corners (argLoc m d) (argPrior m d)) := by
  rw [← entry_scores, ← entry_corners]
  simp only [entryContents, afterL_cons, afterL_nil]
  exact chosen_read _
theorem entry_overlaps : entryContents preI m d (Proc.devRef .tc main_v97_0)
    = overlaps (chosen (classScores (argConf m d)) (corners (argLoc m d) (argPrior m d))) := by
  rw [← entry_chosen]
  simp only [entryContents, afterL_cons, afterL_nil]
  exact overlaps_read _
theorem entry_valid : entryContents preI m d (Proc.devRef .tc main_v97_2) = valid (best (classScores (argConf m d))) := by
  rw [← entry_best]
  simp only [entryContents, afterL_cons, afterL_nil]
  exact valid_read _

theorem result_read : result m d = detections (keptBoxes m d) (best (classScores (argConf m d)))
    (chosen (classScores (argConf m d)) (corners (argLoc m d) (argPrior m d))) := by
  unfold result finalContents
  rw [tail_read, after_of_writes_sub condOps _ condOps_writes (by decide +kernel),
    after_of_writes_sub condOps _ condOps_writes (by decide +kernel), after_of_writes_sub condOps _ condOps_writes (by decide +kernel),
    show atTrip condOps bodyI (entryContents preI m) 200 d = atK m 200 d from rfl,
    atK_kept m d main_values (by decide +kernel), atK_kept m d main_v47 (by decide +kernel), entry_best, entry_chosen,
    atK_agree m d 200 main_v97_5 (by decide)]
  rfl

/-- The kept boxes follow the rule. -/
theorem keptBoxes_rule (b : Fin 128) (c : Fin 20) :
    Kept (classScore (argConf m d) b c) (priorBox (argLoc m d) (argPrior m d) b) fun k => keptBoxes m d (ix3 b c k) == 1#1 := by
  intro k
  have h := kept_rule (entryContents preI m d) _ _ (entry_overlaps m d)
    (by simp only [entryContents, afterL_cons, afterL_nil]; exact places_read _) (entry_valid m d)
    (by simp only [entryContents, afterL_cons, afterL_nil]; exact count_read _)
    (by simp only [entryContents, afterL_cons, afterL_nil]; exact none_read _) b c k
  simp only [beq_iff_eq]
  refine h.trans (and_congr ?_ (not_congr (exists_congr fun j => and_congr_right fun _ => and_congr_right fun _ => ?_)))
  · rw [valid_at, best_ranked (argLoc m d) (argConf m d) (argPrior m d)]
  · rw [overlaps_at _ b c j k _ _, boxAt_ranked _ _ _ b c j _ rfl, boxAt_ranked _ _ _ b c k _ rfl]

/-- The reference's result, class by class. -/
theorem result_at (b : Fin 128) (c : Fin 20) (t : Fin 200) (f : Fin 5) : result m d (ix4 b c.succ t f)
    = (detection (classScore (argConf m d) b c) (priorBox (argLoc m d) (argPrior m d) b)
        (fun k => keptBoxes m d (ix3 b c k) == 1#1) t).field f := by
  rw [result_read]
  exact detections_at _ _ _ b c _ t f

/-- Its background row. -/
theorem result_background (b : Fin 128) (t : Fin 200) (f : Fin 5) : result m d (ix4 b 0 t f) = 0 := by
  rw [result_read]
  exact table_background b t _ _ f

end Result

end Cert.Proof.ReferenceIdeal

end
-- ==== Proof.lean ====
/-
  The certificate's claims put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.ReferenceIdealRun
public import proofs.«01_k».proof.Proof.KernelRun
public import proofs.«01_k».proof.Proof.KernelIdealRun
public import proofs.«01_k».proof.Proof.KernelIdealValue
public import proofs.«01_k».proof.Proof.ReferenceIdealValue

@[expose] public section

noncomputable section

namespace Cert.Proof

open Idealize.ShloMosaic Idealize.SL.Sem Cert.Kernel

/-- From the same arguments the kernel's result and the reference's are one array. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (d : Dev Cert.KernelIdeal.nD)
    (h0 : ReferenceIdeal.argLoc m' d = KernelIdeal.argLoc m d) (h1 : ReferenceIdeal.argConf m' d = KernelIdeal.argConf m d)
    (h2 : ReferenceIdeal.argPrior m' d = KernelIdeal.argPrior m d) : ReferenceIdeal.result m' d = KernelIdeal.result m d := by
  funext i
  rw [eq_ix4 i]
  have key : ∀ (b : Fin 128) (c : Fin 21) (t : Fin 200) (f : Fin 5),
      ReferenceIdeal.result m' d (ix4 b c t f) = KernelIdeal.result m d (ix4 b c t f) := by
    intro b c t f
    induction c using Fin.cases with
    | zero => exact (ReferenceIdeal.result_background m' d b t f).trans (KernelIdeal.result_background m d b t f).symm
    | succ c =>
      have hs : ReferenceIdeal.classScore (ReferenceIdeal.argConf m' d) b c = KernelIdeal.classScore m d b c := by rw [h1]; rfl
      have hb : ReferenceIdeal.priorBox (ReferenceIdeal.argLoc m' d) (ReferenceIdeal.argPrior m' d) b = KernelIdeal.priorBox m d b := by
        rw [h0, h2]; rfl
      have hk := ReferenceIdeal.keptBoxes_rule m' d b c
      have hr := ReferenceIdeal.result_at m' d b c t f
      rw [hs, hb] at hk hr
      exact hr.trans (KernelIdeal.result_at m d b c t f _ hk).symm
  exact key _ _ _ _

theorem claim : Cert.Claim := ⟨Cert.Kernel.Gen.facts, Cert.KernelIdeal.Gen.facts, Cert.ReferenceIdeal.Gen.facts,
  fun m g _ => (θ_run _ _ _).mono (fun _ h => ⟨Kernel.args_kept m h.1, h.2⟩) (Kernel.run_main m g),
  fun m g _ => (θ_run _ _ _).mono (fun _ h => ⟨KernelIdeal.args_kept m h.1, h.2⟩) (KernelIdeal.run_main m g),
  fun m g _ => (θ_run _ _ _).mono (fun r h => ⟨fun c => (h c).2, ReferenceIdeal.counters_zero r.2⟩) (ReferenceIdeal.run_main m g),
  IdealRules.named_const.statement Cert.KernelIdeal.κ "mask" .f32 0xCE6E6B28#32 ⊥ rfl,
  fun m g m' g' _ h => ⟨fun c => KernelIdeal.result m c,
    (θ_run _ _ _).mono (fun _ hr c => ⟨((hr.1 c).2 Cert.KernelIdeal.main_v0 (Pipeline.mem_restRefs_of Cert.KernelIdeal.main_v0 (by decide) (by decide))).trans
      (KernelIdeal.tail_result m c), KernelIdeal.args_kept m hr.1 c⟩) (KernelIdeal.run_main m g),
    (θ_run _ _ _).mono (fun _ hr c => ⟨(hr c).1.trans (results_agree m m' c (h c).1 (h c).2.1 (h c).2.2), (hr c).2⟩)
      (ReferenceIdeal.run_main m' g')⟩⟩

end Cert.Proof

end
